-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![4096, 256]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S16x256x256 : Shape := ⟨3, ![16, 256, 256]⟩
abbrev S7 : Shape := ⟨1, ![7]⟩
abbrev S3 : Shape := ⟨1, ![3]⟩
abbrev S1 : Shape := ⟨1, ![1]⟩
abbrev S_ : Shape := ⟨0, ![]⟩
abbrev S1x256x256 : Shape := ⟨3, ![1, 256, 256]⟩
abbrev S4096x256 : Shape := ⟨2, ![4096, 256]⟩

abbrev nBuf : Space → Nat
  | .hbm => 3
  | .vmem => 2
  | .smem => 0
  | _ => 0

abbrev bufTy : (tb : Table) → Fin (tcTables nBuf tb) → BufTy
  | .hbm, ⟨0, _⟩ => ⟨S256x256, .bf16⟩
  | .hbm, ⟨1, _⟩ => ⟨S16x256x256, .bf16⟩
  | .hbm, ⟨2, _⟩ => ⟨S4096x256, .bf16⟩
  | .local _ .vmem, ⟨0, _⟩ => ⟨S256x256, .bf16⟩
  | .local _ .vmem, ⟨1, _⟩ => ⟨S16x256x256, .bf16⟩
  | _, _ => ⟨S256x256, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_11 : BitVec 32 := 0#32
  let v31 : BitVec 1 := Scalar.cmpi .sgt v2 c0_i32_11
  let v32 : BitVec 32 := Scalar.extui v31
  let c0_i32_12 : BitVec 32 := 0#32
  let v33 : BitVec 1 := Scalar.cmpi .slt v2 c0_i32_12
  let v34 : BitVec 32 := Scalar.extui v33
  let v35 : BitVec 32 := Scalar.subi v32 v34
  let c8_i32 : BitVec 32 := 8#32
  let c0_i32_13 : BitVec 32 := 0#32
  let v36 : BitVec 1 := Scalar.cmpi .sgt c8_i32 c0_i32_13
  let v37 : BitVec 32 := Scalar.extui v36
  let c0_i32_14 : BitVec 32 := 0#32
  let v38 : BitVec 1 := Scalar.cmpi .slt c8_i32 c0_i32_14
  let v39 : BitVec 32 := Scalar.extui v38
  let v40 : BitVec 32 := Scalar.subi v37 v39
  let v41 : BitVec 1 := Scalar.cmpi .ne v35 v40
  let v42 : BitVec 32 := Scalar.remsi v2 c8_i32
  let c0_i32_15 : BitVec 32 := 0#32
  let v43 : BitVec 1 := Scalar.cmpi .ne v42 c0_i32_15
  let v44 : BitVec 1 := Scalar.andi v41 v43
  let v30 : BitVec 32 := Scalar.divsi v2 c8_i32
  let c1_i32_16 : BitVec 32 := 1#32
  let v45 : BitVec 32 := Scalar.subi v30 c1_i32_16
  let v46 : BitVec 32 := Scalar.select v44 v45 v30
  let c8_i32_17 : BitVec 32 := 8#32
  let v47 : BitVec 32 := Scalar.muli v46 c8_i32_17
  let c8_i32_18 : BitVec 32 := 8#32
  let c0_i32_19 : BitVec 32 := 0#32
  let v48 : BitVec 1 := Scalar.cmpi .eq c8_i32_18 c0_i32_19
  let c1_i32_20 : BitVec 32 := 1#32
  let v49 : BitVec 32 := Scalar.select v48 c1_i32_20 c8_i32_18
  let v50 : BitVec 32 := Scalar.remsi v2 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c1_i32_33 : BitVec 32 := 1#32
  let v77 : BitVec 32 := Scalar.addi v57 c1_i32_33
  let c8_i32_34 : BitVec 32 := 8#32
  let c0_i32_35 : BitVec 32 := 0#32
  let v78 : BitVec 1 := Scalar.cmpi .eq c8_i32_34 c0_i32_35
  let c1_i32_36 : BitVec 32 := 1#32
  let v79 : BitVec 32 := Scalar.select v78 c1_i32_36 c8_i32_34
  let v80 : BitVec 32 := Scalar.remsi v77 v79
  let c0_i32_38 : BitVec 32 := 0#32
  let v82 : BitVec 1 := Scalar.cmpi .slt v80 c0_i32_38
  let c0_i32_39 : BitVec 32 := 0#32
  let v83 : BitVec 1 := Scalar.cmpi .slt v79 c0_i32_39
  let v84 : BitVec 1 := Scalar.xori v82 v83
  let c0_i32_37 : BitVec 32 := 0#32
  let v81 : BitVec 1 := Scalar.cmpi .ne v80 c0_i32_37
  let v85 : BitVec 1 := Scalar.andi v84 v81
  let v86 : BitVec 32 := Scalar.addi v80 v79
  let v87 : BitVec 32 := Scalar.select v85 v86 v80
  let v88 : BitVec 32 := Scalar.addi v47 v87
  let c1_i32_41 : BitVec 32 := 1#32
  let v89 : BitVec 32 := Scalar.muli v88 c1_i32_41
  let v90 : BitVec 32 := Scalar.addi c0_i32_42 v89
  v90.toNat
def k0_dev2 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_11 : BitVec 32 := 0#32
  let v31 : BitVec 1 := Scalar.cmpi .sgt v2 c0_i32_11
  let v32 : BitVec 32 := Scalar.extui v31
  let c0_i32_12 : BitVec 32 := 0#32
  let v33 : BitVec 1 := Scalar.cmpi .slt v2 c0_i32_12
  let v34 : BitVec 32 := Scalar.extui v33
  let v35 : BitVec 32 := Scalar.subi v32 v34
  let c8_i32 : BitVec 32 := 8#32
  let c0_i32_13 : BitVec 32 := 0#32
  let v36 : BitVec 1 := Scalar.cmpi .sgt c8_i32 c0_i32_13
  let v37 : BitVec 32 := Scalar.extui v36
  let c0_i32_14 : BitVec 32 := 0#32
  let v38 : BitVec 1 := Scalar.cmpi .slt c8_i32 c0_i32_14
  let v39 : BitVec 32 := Scalar.extui v38
  let v40 : BitVec 32 := Scalar.subi v37 v39
  let v41 : BitVec 1 := Scalar.cmpi .ne v35 v40
  let v42 : BitVec 32 := Scalar.remsi v2 c8_i32
  let c0_i32_15 : BitVec 32 := 0#32
  let v43 : BitVec 1 := Scalar.cmpi .ne v42 c0_i32_15
  let v44 : BitVec 1 := Scalar.andi v41 v43
  let v30 : BitVec 32 := Scalar.divsi v2 c8_i32
  let c1_i32_16 : BitVec 32 := 1#32
  let v45 : BitVec 32 := Scalar.subi v30 c1_i32_16
  let v46 : BitVec 32 := Scalar.select v44 v45 v30
  let c8_i32_17 : BitVec 32 := 8#32
  let v47 : BitVec 32 := Scalar.muli v46 c8_i32_17
  let c8_i32_18 : BitVec 32 := 8#32
  let c0_i32_19 : BitVec 32 := 0#32
  let v48 : BitVec 1 := Scalar.cmpi .eq c8_i32_18 c0_i32_19
  let c1_i32_20 : BitVec 32 := 1#32
  let v49 : BitVec 32 := Scalar.select v48 c1_i32_20 c8_i32_18
  let v50 : BitVec 32 := Scalar.remsi v2 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c2_i32_43 : BitVec 32 := 2#32
  let v91 : BitVec 32 := Scalar.addi v57 c2_i32_43
  let c8_i32_44 : BitVec 32 := 8#32
  let c0_i32_45 : BitVec 32 := 0#32
  let v92 : BitVec 1 := Scalar.cmpi .eq c8_i32_44 c0_i32_45
  let c1_i32_46 : BitVec 32 := 1#32
  let v93 : BitVec 32 := Scalar.select v92 c1_i32_46 c8_i32_44
  let v94 : BitVec 32 := Scalar.remsi v91 v93
  let c0_i32_48 : BitVec 32 := 0#32
  let v96 : BitVec 1 := Scalar.cmpi .slt v94 c0_i32_48
  let c0_i32_49 : BitVec 32 := 0#32
  let v97 : BitVec 1 := Scalar.cmpi .slt v93 c0_i32_49
  let v98 : BitVec 1 := Scalar.xori v96 v97
  let c0_i32_47 : BitVec 32 := 0#32
  let v95 : BitVec 1 := Scalar.cmpi .ne v94 c0_i32_47
  let v99 : BitVec 1 := Scalar.andi v98 v95
  let v100 : BitVec 32 := Scalar.addi v94 v93
  let v101 : BitVec 32 := Scalar.select v99 v100 v94
  let v102 : BitVec 32 := Scalar.addi v47 v101
  let c1_i32_51 : BitVec 32 := 1#32
  let v103 : BitVec 32 := Scalar.muli v102 c1_i32_51
  let v104 : BitVec 32 := Scalar.addi c0_i32_52 v103
  v104.toNat
def k0_dev3 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_11 : BitVec 32 := 0#32
  let v31 : BitVec 1 := Scalar.cmpi .sgt v2 c0_i32_11
  let v32 : BitVec 32 := Scalar.extui v31
  let c0_i32_12 : BitVec 32 := 0#32
  let v33 : BitVec 1 := Scalar.cmpi .slt v2 c0_i32_12
  let v34 : BitVec 32 := Scalar.extui v33
  let v35 : BitVec 32 := Scalar.subi v32 v34
  let c8_i32 : BitVec 32 := 8#32
  let c0_i32_13 : BitVec 32 := 0#32
  let v36 : BitVec 1 := Scalar.cmpi .sgt c8_i32 c0_i32_13
  let v37 : BitVec 32 := Scalar.extui v36
  let c0_i32_14 : BitVec 32 := 0#32
  let v38 : BitVec 1 := Scalar.cmpi .slt c8_i32 c0_i32_14
  let v39 : BitVec 32 := Scalar.extui v38
  let v40 : BitVec 32 := Scalar.subi v37 v39
  let v41 : BitVec 1 := Scalar.cmpi .ne v35 v40
  let v42 : BitVec 32 := Scalar.remsi v2 c8_i32
  let c0_i32_15 : BitVec 32 := 0#32
  let v43 : BitVec 1 := Scalar.cmpi .ne v42 c0_i32_15
  let v44 : BitVec 1 := Scalar.andi v41 v43
  let v30 : BitVec 32 := Scalar.divsi v2 c8_i32
  let c1_i32_16 : BitVec 32 := 1#32
  let v45 : BitVec 32 := Scalar.subi v30 c1_i32_16
  let v46 : BitVec 32 := Scalar.select v44 v45 v30
  let c8_i32_17 : BitVec 32 := 8#32
  let v47 : BitVec 32 := Scalar.muli v46 c8_i32_17
  let c8_i32_18 : BitVec 32 := 8#32
  let c0_i32_19 : BitVec 32 := 0#32
  let v48 : BitVec 1 := Scalar.cmpi .eq c8_i32_18 c0_i32_19
  let c1_i32_20 : BitVec 32 := 1#32
  let v49 : BitVec 32 := Scalar.select v48 c1_i32_20 c8_i32_18
  let v50 : BitVec 32 := Scalar.remsi v2 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c3_i32_53 : BitVec 32 := 3#32
  let v105 : BitVec 32 := Scalar.addi v57 c3_i32_53
  let c8_i32_54 : BitVec 32 := 8#32
  let c0_i32_55 : BitVec 32 := 0#32
  let v106 : BitVec 1 := Scalar.cmpi .eq c8_i32_54 c0_i32_55
  let c1_i32_56 : BitVec 32 := 1#32
  let v107 : BitVec 32 := Scalar.select v106 c1_i32_56 c8_i32_54
  let v108 : BitVec 32 := Scalar.remsi v105 v107
  let c0_i32_58 : BitVec 32 := 0#32
  let v110 : BitVec 1 := Scalar.cmpi .slt v108 c0_i32_58
  let c0_i32_59 : BitVec 32 := 0#32
  let v111 : BitVec 1 := Scalar.cmpi .slt v107 c0_i32_59
  let v112 : BitVec 1 := Scalar.xori v110 v111
  let c0_i32_57 : BitVec 32 := 0#32
  let v109 : BitVec 1 := Scalar.cmpi .ne v108 c0_i32_57
  let v113 : BitVec 1 := Scalar.andi v112 v109
  let v114 : BitVec 32 := Scalar.addi v108 v107
  let v115 : BitVec 32 := Scalar.select v113 v114 v108
  let v116 : BitVec 32 := Scalar.addi v47 v115
  let c1_i32_61 : BitVec 32 := 1#32
  let v117 : BitVec 32 := Scalar.muli v116 c1_i32_61
  let v118 : BitVec 32 := Scalar.addi c0_i32_62 v117
  v118.toNat
def k0_dev4 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_11 : BitVec 32 := 0#32
  let v31 : BitVec 1 := Scalar.cmpi .sgt v2 c0_i32_11
  let v32 : BitVec 32 := Scalar.extui v31
  let c0_i32_12 : BitVec 32 := 0#32
  let v33 : BitVec 1 := Scalar.cmpi .slt v2 c0_i32_12
  let v34 : BitVec 32 := Scalar.extui v33
  let v35 : BitVec 32 := Scalar.subi v32 v34
  let c8_i32 : BitVec 32 := 8#32
  let c0_i32_13 : BitVec 32 := 0#32
  let v36 : BitVec 1 := Scalar.cmpi .sgt c8_i32 c0_i32_13
  let v37 : BitVec 32 := Scalar.extui v36
  let c0_i32_14 : BitVec 32 := 0#32
  let v38 : BitVec 1 := Scalar.cmpi .slt c8_i32 c0_i32_14
  let v39 : BitVec 32 := Scalar.extui v38
  let v40 : BitVec 32 := Scalar.subi v37 v39
  let v41 : BitVec 1 := Scalar.cmpi .ne v35 v40
  let v42 : BitVec 32 := Scalar.remsi v2 c8_i32
  let c0_i32_15 : BitVec 32 := 0#32
  let v43 : BitVec 1 := Scalar.cmpi .ne v42 c0_i32_15
  let v44 : BitVec 1 := Scalar.andi v41 v43
  let v30 : BitVec 32 := Scalar.divsi v2 c8_i32
  let c1_i32_16 : BitVec 32 := 1#32
  let v45 : BitVec 32 := Scalar.subi v30 c1_i32_16
  let v46 : BitVec 32 := Scalar.select v44 v45 v30
  let c8_i32_17 : BitVec 32 := 8#32
  let v47 : BitVec 32 := Scalar.muli v46 c8_i32_17
  let c8_i32_18 : BitVec 32 := 8#32
  let c0_i32_19 : BitVec 32 := 0#32
  let v48 : BitVec 1 := Scalar.cmpi .eq c8_i32_18 c0_i32_19
  let c1_i32_20 : BitVec 32 := 1#32
  let v49 : BitVec 32 := Scalar.select v48 c1_i32_20 c8_i32_18
  let v50 : BitVec 32 := Scalar.remsi v2 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c4_i32_63 : BitVec 32 := 4#32
  let v119 : BitVec 32 := Scalar.addi v57 c4_i32_63
  let c8_i32_64 : BitVec 32 := 8#32
  let c0_i32_65 : BitVec 32 := 0#32
  let v120 : BitVec 1 := Scalar.cmpi .eq c8_i32_64 c0_i32_65
  let c1_i32_66 : BitVec 32 := 1#32
  let v121 : BitVec 32 := Scalar.select v120 c1_i32_66 c8_i32_64
  let v122 : BitVec 32 := Scalar.remsi v119 v121
  let c0_i32_68 : BitVec 32 := 0#32
  let v124 : BitVec 1 := Scalar.cmpi .slt v122 c0_i32_68
  let c0_i32_69 : BitVec 32 := 0#32
  let v125 : BitVec 1 := Scalar.cmpi .slt v121 c0_i32_69
  let v126 : BitVec 1 := Scalar.xori v124 v125
  let c0_i32_67 : BitVec 32 := 0#32
  let v123 : BitVec 1 := Scalar.cmpi .ne v122 c0_i32_67
  let v127 : BitVec 1 := Scalar.andi v126 v123
  let v128 : BitVec 32 := Scalar.addi v122 v121
  let v129 : BitVec 32 := Scalar.select v127 v128 v122
  let v130 : BitVec 32 := Scalar.addi v47 v129
  let c1_i32_71 : BitVec 32 := 1#32
  let v131 : BitVec 32 := Scalar.muli v130 c1_i32_71
  let v132 : BitVec 32 := Scalar.addi c0_i32_72 v131
  v132.toNat
def k0_dev5 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_11 : BitVec 32 := 0#32
  let v31 : BitVec 1 := Scalar.cmpi .sgt v2 c0_i32_11
  let v32 : BitVec 32 := Scalar.extui v31
  let c0_i32_12 : BitVec 32 := 0#32
  let v33 : BitVec 1 := Scalar.cmpi .slt v2 c0_i32_12
  let v34 : BitVec 32 := Scalar.extui v33
  let v35 : BitVec 32 := Scalar.subi v32 v34
  let c8_i32 : BitVec 32 := 8#32
  let c0_i32_13 : BitVec 32 := 0#32
  let v36 : BitVec 1 := Scalar.cmpi .sgt c8_i32 c0_i32_13
  let v37 : BitVec 32 := Scalar.extui v36
  let c0_i32_14 : BitVec 32 := 0#32
  let v38 : BitVec 1 := Scalar.cmpi .slt c8_i32 c0_i32_14
  let v39 : BitVec 32 := Scalar.extui v38
  let v40 : BitVec 32 := Scalar.subi v37 v39
  let v41 : BitVec 1 := Scalar.cmpi .ne v35 v40
  let v42 : BitVec 32 := Scalar.remsi v2 c8_i32
  let c0_i32_15 : BitVec 32 := 0#32
  let v43 : BitVec 1 := Scalar.cmpi .ne v42 c0_i32_15
  let v44 : BitVec 1 := Scalar.andi v41 v43
  let v30 : BitVec 32 := Scalar.divsi v2 c8_i32
  let c1_i32_16 : BitVec 32 := 1#32
  let v45 : BitVec 32 := Scalar.subi v30 c1_i32_16
  let v46 : BitVec 32 := Scalar.select v44 v45 v30
  let c8_i32_17 : BitVec 32 := 8#32
  let v47 : BitVec 32 := Scalar.muli v46 c8_i32_17
  let c8_i32_18 : BitVec 32 := 8#32
  let c0_i32_19 : BitVec 32 := 0#32
  let v48 : BitVec 1 := Scalar.cmpi .eq c8_i32_18 c0_i32_19
  let c1_i32_20 : BitVec 32 := 1#32
  let v49 : BitVec 32 := Scalar.select v48 c1_i32_20 c8_i32_18
  let v50 : BitVec 32 := Scalar.remsi v2 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c5_i32 : BitVec 32 := 5#32
  let v133 : BitVec 32 := Scalar.addi v57 c5_i32
  let c8_i32_73 : BitVec 32 := 8#32
  let c0_i32_74 : BitVec 32 := 0#32
  let v134 : BitVec 1 := Scalar.cmpi .eq c8_i32_73 c0_i32_74
  let c1_i32_75 : BitVec 32 := 1#32
  let v135 : BitVec 32 := Scalar.select v134 c1_i32_75 c8_i32_73
  let v136 : BitVec 32 := Scalar.remsi v133 v135
  let c0_i32_77 : BitVec 32 := 0#32
  let v138 : BitVec 1 := Scalar.cmpi .slt v136 c0_i32_77
  let c0_i32_78 : BitVec 32 := 0#32
  let v139 : BitVec 1 := Scalar.cmpi .slt v135 c0_i32_78
  let v140 : BitVec 1 := Scalar.xori v138 v139
  let c0_i32_76 : BitVec 32 := 0#32
  let v137 : BitVec 1 := Scalar.cmpi .ne v136 c0_i32_76
  let v141 : BitVec 1 := Scalar.andi v140 v137
  let v142 : BitVec 32 := Scalar.addi v136 v135
  let v143 : BitVec 32 := Scalar.select v141 v142 v136
  let v144 : BitVec 32 := Scalar.addi v47 v143
  let c1_i32_80 : BitVec 32 := 1#32
  let v145 : BitVec 32 := Scalar.muli v144 c1_i32_80
  let v146 : BitVec 32 := Scalar.addi c0_i32_81 v145
  v146.toNat
def k0_dev6 (d0 : Dev nD) : Nat :=
  let c0_i32_90 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_11 : BitVec 32 := 0#32
  let v31 : BitVec 1 := Scalar.cmpi .sgt v2 c0_i32_11
  let v32 : BitVec 32 := Scalar.extui v31
  let c0_i32_12 : BitVec 32 := 0#32
  let v33 : BitVec 1 := Scalar.cmpi .slt v2 c0_i32_12
  let v34 : BitVec 32 := Scalar.extui v33
  let v35 : BitVec 32 := Scalar.subi v32 v34
  let c8_i32 : BitVec 32 := 8#32
  let c0_i32_13 : BitVec 32 := 0#32
  let v36 : BitVec 1 := Scalar.cmpi .sgt c8_i32 c0_i32_13
  let v37 : BitVec 32 := Scalar.extui v36
  let c0_i32_14 : BitVec 32 := 0#32
  let v38 : BitVec 1 := Scalar.cmpi .slt c8_i32 c0_i32_14
  let v39 : BitVec 32 := Scalar.extui v38
  let v40 : BitVec 32 := Scalar.subi v37 v39
  let v41 : BitVec 1 := Scalar.cmpi .ne v35 v40
  let v42 : BitVec 32 := Scalar.remsi v2 c8_i32
  let c0_i32_15 : BitVec 32 := 0#32
  let v43 : BitVec 1 := Scalar.cmpi .ne v42 c0_i32_15
  let v44 : BitVec 1 := Scalar.andi v41 v43
  let v30 : BitVec 32 := Scalar.divsi v2 c8_i32
  let c1_i32_16 : BitVec 32 := 1#32
  let v45 : BitVec 32 := Scalar.subi v30 c1_i32_16
  let v46 : BitVec 32 := Scalar.select v44 v45 v30
  let c8_i32_17 : BitVec 32 := 8#32
  let v47 : BitVec 32 := Scalar.muli v46 c8_i32_17
  let c8_i32_18 : BitVec 32 := 8#32
  let c0_i32_19 : BitVec 32 := 0#32
  let v48 : BitVec 1 := Scalar.cmpi .eq c8_i32_18 c0_i32_19
  let c1_i32_20 : BitVec 32 := 1#32
  let v49 : BitVec 32 := Scalar.select v48 c1_i32_20 c8_i32_18
  let v50 : BitVec 32 := Scalar.remsi v2 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c6_i32 : BitVec 32 := 6#32
  let v147 : BitVec 32 := Scalar.addi v57 c6_i32
  let c8_i32_82 : BitVec 32 := 8#32
  let c0_i32_83 : BitVec 32 := 0#32
  let v148 : BitVec 1 := Scalar.cmpi .eq c8_i32_82 c0_i32_83
  let c1_i32_84 : BitVec 32 := 1#32
  let v149 : BitVec 32 := Scalar.select v148 c1_i32_84 c8_i32_82
  let v150 : BitVec 32 := Scalar.remsi v147 v149
  let c0_i32_86 : BitVec 32 := 0#32
  let v152 : BitVec 1 := Scalar.cmpi .slt v150 c0_i32_86
  let c0_i32_87 : BitVec 32 := 0#32
  let v153 : BitVec 1 := Scalar.cmpi .slt v149 c0_i32_87
  let v154 : BitVec 1 := Scalar.xori v152 v153
  let c0_i32_85 : BitVec 32 := 0#32
  let v151 : BitVec 1 := Scalar.cmpi .ne v150 c0_i32_85
  let v155 : BitVec 1 := Scalar.andi v154 v151
  let v156 : BitVec 32 := Scalar.addi v150 v149
  let v157 : BitVec 32 := Scalar.select v155 v156 v150
  let v158 : BitVec 32 := Scalar.addi v47 v157
  let c1_i32_89 : BitVec 32 := 1#32
  let v159 : BitVec 32 := Scalar.muli v158 c1_i32_89
  let v160 : BitVec 32 := Scalar.addi c0_i32_90 v159
  v160.toNat
def k0_dev7 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_11 : BitVec 32 := 0#32
  let v31 : BitVec 1 := Scalar.cmpi .sgt v2 c0_i32_11
  let v32 : BitVec 32 := Scalar.extui v31
  let c0_i32_12 : BitVec 32 := 0#32
  let v33 : BitVec 1 := Scalar.cmpi .slt v2 c0_i32_12
  let v34 : BitVec 32 := Scalar.extui v33
  let v35 : BitVec 32 := Scalar.subi v32 v34
  let c8_i32 : BitVec 32 := 8#32
  let c0_i32_13 : BitVec 32 := 0#32
  let v36 : BitVec 1 := Scalar.cmpi .sgt c8_i32 c0_i32_13
  let v37 : BitVec 32 := Scalar.extui v36
  let c0_i32_14 : BitVec 32 := 0#32
  let v38 : BitVec 1 := Scalar.cmpi .slt c8_i32 c0_i32_14
  let v39 : BitVec 32 := Scalar.extui v38
  let v40 : BitVec 32 := Scalar.subi v37 v39
  let v41 : BitVec 1 := Scalar.cmpi .ne v35 v40
  let v42 : BitVec 32 := Scalar.remsi v2 c8_i32
  let c0_i32_15 : BitVec 32 := 0#32
  let v43 : BitVec 1 := Scalar.cmpi .ne v42 c0_i32_15
  let v44 : BitVec 1 := Scalar.andi v41 v43
  let v30 : BitVec 32 := Scalar.divsi v2 c8_i32
  let c1_i32_16 : BitVec 32 := 1#32
  let v45 : BitVec 32 := Scalar.subi v30 c1_i32_16
  let v46 : BitVec 32 := Scalar.select v44 v45 v30
  let c8_i32_17 : BitVec 32 := 8#32
  let v47 : BitVec 32 := Scalar.muli v46 c8_i32_17
  let c8_i32_18 : BitVec 32 := 8#32
  let c0_i32_19 : BitVec 32 := 0#32
  let v48 : BitVec 1 := Scalar.cmpi .eq c8_i32_18 c0_i32_19
  let c1_i32_20 : BitVec 32 := 1#32
  let v49 : BitVec 32 := Scalar.select v48 c1_i32_20 c8_i32_18
  let v50 : BitVec 32 := Scalar.remsi v2 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c7_i32 : BitVec 32 := 7#32
  let v161 : BitVec 32 := Scalar.addi v57 c7_i32
  let c8_i32_91 : BitVec 32 := 8#32
  let c0_i32_92 : BitVec 32 := 0#32
  let v162 : BitVec 1 := Scalar.cmpi .eq c8_i32_91 c0_i32_92
  let c1_i32_93 : BitVec 32 := 1#32
  let v163 : BitVec 32 := Scalar.select v162 c1_i32_93 c8_i32_91
  let v164 : BitVec 32 := Scalar.remsi v161 v163
  let c0_i32_95 : BitVec 32 := 0#32
  let v166 : BitVec 1 := Scalar.cmpi .slt v164 c0_i32_95
  let c0_i32_96 : BitVec 32 := 0#32
  let v167 : BitVec 1 := Scalar.cmpi .slt v163 c0_i32_96
  let v168 : BitVec 1 := Scalar.xori v166 v167
  let c0_i32_94 : BitVec 32 := 0#32
  let v165 : BitVec 1 := Scalar.cmpi .ne v164 c0_i32_94
  let v169 : BitVec 1 := Scalar.andi v168 v165
  let v170 : BitVec 32 := Scalar.addi v164 v163
  let v171 : BitVec 32 := Scalar.select v169 v170 v164
  let v172 : BitVec 32 := Scalar.addi v47 v171
  let c1_i32_98 : BitVec 32 := 1#32
  let v173 : BitVec 32 := Scalar.muli v172 c1_i32_98
  let v174 : BitVec 32 := Scalar.addi c0_i32_99 v173
  v174.toNat
def k0_dev8 (d0 : Dev nD) : Nat :=
  let c0_i32_102 : BitVec 32 := 0#32
  let c4_i32_24 : BitVec 32 := 4#32
  let c3_i32 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v58 : BitVec 32 := Scalar.subi c3_i32 v19
  let v59 : BitVec 32 := Scalar.muli c4_i32_24 v58
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v60 : BitVec 32 := Scalar.addi v59 v29
  let c1_i32_101 : BitVec 32 := 1#32
  let v175 : BitVec 32 := Scalar.muli v60 c1_i32_101
  let v176 : BitVec 32 := Scalar.addi c0_i32_102 v175
  v176.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v179 : Index := Scalar.indexCast v2
  let c0_105 : Index := 0#32
  let c0_106 : Index := 0#32
  ![v179.toNat, 0, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_111 : BitVec 32 := 0#32
  let c0_i32_112 : BitVec 32 := 0#32
  ![v2.toNat, 0, 0]
def k0_dev9 (d0 : Dev nD) : Nat :=
  let c0_i32_110 : BitVec 32 := 0#32
  let c4_i32_24 : BitVec 32 := 4#32
  let c3_i32 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v58 : BitVec 32 := Scalar.subi c3_i32 v19
  let v59 : BitVec 32 := Scalar.muli c4_i32_24 v58
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v60 : BitVec 32 := Scalar.addi v59 v29
  let c1_i32_109 : BitVec 32 := 1#32
  let v183 : BitVec 32 := Scalar.muli v60 c1_i32_109
  let v184 : BitVec 32 := Scalar.addi c0_i32_110 v183
  v184.toNat
def k0_dev10 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_11 : BitVec 32 := 0#32
  let v31 : BitVec 1 := Scalar.cmpi .sgt v2 c0_i32_11
  let v32 : BitVec 32 := Scalar.extui v31
  let c0_i32_12 : BitVec 32 := 0#32
  let v33 : BitVec 1 := Scalar.cmpi .slt v2 c0_i32_12
  let v34 : BitVec 32 := Scalar.extui v33
  let v35 : BitVec 32 := Scalar.subi v32 v34
  let c8_i32 : BitVec 32 := 8#32
  let c0_i32_13 : BitVec 32 := 0#32
  let v36 : BitVec 1 := Scalar.cmpi .sgt c8_i32 c0_i32_13
  let v37 : BitVec 32 := Scalar.extui v36
  let c0_i32_14 : BitVec 32 := 0#32
  let v38 : BitVec 1 := Scalar.cmpi .slt c8_i32 c0_i32_14
  let v39 : BitVec 32 := Scalar.extui v38
  let v40 : BitVec 32 := Scalar.subi v37 v39
  let v41 : BitVec 1 := Scalar.cmpi .ne v35 v40
  let v42 : BitVec 32 := Scalar.remsi v2 c8_i32
  let c0_i32_15 : BitVec 32 := 0#32
  let v43 : BitVec 1 := Scalar.cmpi .ne v42 c0_i32_15
  let v44 : BitVec 1 := Scalar.andi v41 v43
  let v30 : BitVec 32 := Scalar.divsi v2 c8_i32
  let c1_i32_16 : BitVec 32 := 1#32
  let v45 : BitVec 32 := Scalar.subi v30 c1_i32_16
  let v46 : BitVec 32 := Scalar.select v44 v45 v30
  let c8_i32_17 : BitVec 32 := 8#32
  let v47 : BitVec 32 := Scalar.muli v46 c8_i32_17
  let c8_i32_18 : BitVec 32 := 8#32
  let c0_i32_19 : BitVec 32 := 0#32
  let v48 : BitVec 1 := Scalar.cmpi .eq c8_i32_18 c0_i32_19
  let c1_i32_20 : BitVec 32 := 1#32
  let v49 : BitVec 32 := Scalar.select v48 c1_i32_20 c8_i32_18
  let v50 : BitVec 32 := Scalar.remsi v2 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c1_i32_115 : BitVec 32 := 1#32
  let v193 : BitVec 32 := Scalar.addi v57 c1_i32_115
  let c8_i32_116 : BitVec 32 := 8#32
  let c0_i32_117 : BitVec 32 := 0#32
  let v194 : BitVec 1 := Scalar.cmpi .eq c8_i32_116 c0_i32_117
  let c1_i32_118 : BitVec 32 := 1#32
  let v195 : BitVec 32 := Scalar.select v194 c1_i32_118 c8_i32_116
  let v196 : BitVec 32 := Scalar.remsi v193 v195
  let c0_i32_120 : BitVec 32 := 0#32
  let v198 : BitVec 1 := Scalar.cmpi .slt v196 c0_i32_120
  let c0_i32_121 : BitVec 32 := 0#32
  let v199 : BitVec 1 := Scalar.cmpi .slt v195 c0_i32_121
  let v200 : BitVec 1 := Scalar.xori v198 v199
  let c0_i32_119 : BitVec 32 := 0#32
  let v197 : BitVec 1 := Scalar.cmpi .ne v196 c0_i32_119
  let v201 : BitVec 1 := Scalar.andi v200 v197
  let v202 : BitVec 32 := Scalar.addi v196 v195
  let v203 : BitVec 32 := Scalar.select v201 v202 v196
  let v204 : BitVec 32 := Scalar.addi v47 v203
  let c1_i32_124 : BitVec 32 := 1#32
  let v205 : BitVec 32 := Scalar.muli v204 c1_i32_124
  let v206 : BitVec 32 := Scalar.addi c0_i32_125 v205
  v206.toNat
def k0_dev11 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_11 : BitVec 32 := 0#32
  let v31 : BitVec 1 := Scalar.cmpi .sgt v2 c0_i32_11
  let v32 : BitVec 32 := Scalar.extui v31
  let c0_i32_12 : BitVec 32 := 0#32
  let v33 : BitVec 1 := Scalar.cmpi .slt v2 c0_i32_12
  let v34 : BitVec 32 := Scalar.extui v33
  let v35 : BitVec 32 := Scalar.subi v32 v34
  let c8_i32 : BitVec 32 := 8#32
  let c0_i32_13 : BitVec 32 := 0#32
  let v36 : BitVec 1 := Scalar.cmpi .sgt c8_i32 c0_i32_13
  let v37 : BitVec 32 := Scalar.extui v36
  let c0_i32_14 : BitVec 32 := 0#32
  let v38 : BitVec 1 := Scalar.cmpi .slt c8_i32 c0_i32_14
  let v39 : BitVec 32 := Scalar.extui v38
  let v40 : BitVec 32 := Scalar.subi v37 v39
  let v41 : BitVec 1 := Scalar.cmpi .ne v35 v40
  let v42 : BitVec 32 := Scalar.remsi v2 c8_i32
  let c0_i32_15 : BitVec 32 := 0#32
  let v43 : BitVec 1 := Scalar.cmpi .ne v42 c0_i32_15
  let v44 : BitVec 1 := Scalar.andi v41 v43
  let v30 : BitVec 32 := Scalar.divsi v2 c8_i32
  let c1_i32_16 : BitVec 32 := 1#32
  let v45 : BitVec 32 := Scalar.subi v30 c1_i32_16
  let v46 : BitVec 32 := Scalar.select v44 v45 v30
  let c8_i32_17 : BitVec 32 := 8#32
  let v47 : BitVec 32 := Scalar.muli v46 c8_i32_17
  let c8_i32_18 : BitVec 32 := 8#32
  let c0_i32_19 : BitVec 32 := 0#32
  let v48 : BitVec 1 := Scalar.cmpi .eq c8_i32_18 c0_i32_19
  let c1_i32_20 : BitVec 32 := 1#32
  let v49 : BitVec 32 := Scalar.select v48 c1_i32_20 c8_i32_18
  let v50 : BitVec 32 := Scalar.remsi v2 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c2_i32_130 : BitVec 32 := 2#32
  let v215 : BitVec 32 := Scalar.addi v57 c2_i32_130
  let c8_i32_131 : BitVec 32 := 8#32
  let c0_i32_132 : BitVec 32 := 0#32
  let v216 : BitVec 1 := Scalar.cmpi .eq c8_i32_131 c0_i32_132
  let c1_i32_133 : BitVec 32 := 1#32
  let v217 : BitVec 32 := Scalar.select v216 c1_i32_133 c8_i32_131
  let v218 : BitVec 32 := Scalar.remsi v215 v217
  let c0_i32_135 : BitVec 32 := 0#32
  let v220 : BitVec 1 := Scalar.cmpi .slt v218 c0_i32_135
  let c0_i32_136 : BitVec 32 := 0#32
  let v221 : BitVec 1 := Scalar.cmpi .slt v217 c0_i32_136
  let v222 : BitVec 1 := Scalar.xori v220 v221
  let c0_i32_134 : BitVec 32 := 0#32
  let v219 : BitVec 1 := Scalar.cmpi .ne v218 c0_i32_134
  let v223 : BitVec 1 := Scalar.andi v222 v219
  let v224 : BitVec 32 := Scalar.addi v218 v217
  let v225 : BitVec 32 := Scalar.select v223 v224 v218
  let v226 : BitVec 32 := Scalar.addi v47 v225
  let c1_i32_139 : BitVec 32 := 1#32
  let v227 : BitVec 32 := Scalar.muli v226 c1_i32_139
  let v228 : BitVec 32 := Scalar.addi c0_i32_140 v227
  v228.toNat
def k0_dev12 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_11 : BitVec 32 := 0#32
  let v31 : BitVec 1 := Scalar.cmpi .sgt v2 c0_i32_11
  let v32 : BitVec 32 := Scalar.extui v31
  let c0_i32_12 : BitVec 32 := 0#32
  let v33 : BitVec 1 := Scalar.cmpi .slt v2 c0_i32_12
  let v34 : BitVec 32 := Scalar.extui v33
  let v35 : BitVec 32 := Scalar.subi v32 v34
  let c8_i32 : BitVec 32 := 8#32
  let c0_i32_13 : BitVec 32 := 0#32
  let v36 : BitVec 1 := Scalar.cmpi .sgt c8_i32 c0_i32_13
  let v37 : BitVec 32 := Scalar.extui v36
  let c0_i32_14 : BitVec 32 := 0#32
  let v38 : BitVec 1 := Scalar.cmpi .slt c8_i32 c0_i32_14
  let v39 : BitVec 32 := Scalar.extui v38
  let v40 : BitVec 32 := Scalar.subi v37 v39
  let v41 : BitVec 1 := Scalar.cmpi .ne v35 v40
  let v42 : BitVec 32 := Scalar.remsi v2 c8_i32
  let c0_i32_15 : BitVec 32 := 0#32
  let v43 : BitVec 1 := Scalar.cmpi .ne v42 c0_i32_15
  let v44 : BitVec 1 := Scalar.andi v41 v43
  let v30 : BitVec 32 := Scalar.divsi v2 c8_i32
  let c1_i32_16 : BitVec 32 := 1#32
  let v45 : BitVec 32 := Scalar.subi v30 c1_i32_16
  let v46 : BitVec 32 := Scalar.select v44 v45 v30
  let c8_i32_17 : BitVec 32 := 8#32
  let v47 : BitVec 32 := Scalar.muli v46 c8_i32_17
  let c8_i32_18 : BitVec 32 := 8#32
  let c0_i32_19 : BitVec 32 := 0#32
  let v48 : BitVec 1 := Scalar.cmpi .eq c8_i32_18 c0_i32_19
  let c1_i32_20 : BitVec 32 := 1#32
  let v49 : BitVec 32 := Scalar.select v48 c1_i32_20 c8_i32_18
  let v50 : BitVec 32 := Scalar.remsi v2 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c3_i32_145 : BitVec 32 := 3#32
  let v237 : BitVec 32 := Scalar.addi v57 c3_i32_145
  let c8_i32_146 : BitVec 32 := 8#32
  let c0_i32_147 : BitVec 32 := 0#32
  let v238 : BitVec 1 := Scalar.cmpi .eq c8_i32_146 c0_i32_147
  let c1_i32_148 : BitVec 32 := 1#32
  let v239 : BitVec 32 := Scalar.select v238 c1_i32_148 c8_i32_146
  let v240 : BitVec 32 := Scalar.remsi v237 v239
  let c0_i32_150 : BitVec 32 := 0#32
  let v242 : BitVec 1 := Scalar.cmpi .slt v240 c0_i32_150
  let c0_i32_151 : BitVec 32 := 0#32
  let v243 : BitVec 1 := Scalar.cmpi .slt v239 c0_i32_151
  let v244 : BitVec 1 := Scalar.xori v242 v243
  let c0_i32_149 : BitVec 32 := 0#32
  let v241 : BitVec 1 := Scalar.cmpi .ne v240 c0_i32_149
  let v245 : BitVec 1 := Scalar.andi v244 v241
  let v246 : BitVec 32 := Scalar.addi v240 v239
  let v247 : BitVec 32 := Scalar.select v245 v246 v240
  let v248 : BitVec 32 := Scalar.addi v47 v247
  let c1_i32_154 : BitVec 32 := 1#32
  let v249 : BitVec 32 := Scalar.muli v248 c1_i32_154
  let v250 : BitVec 32 := Scalar.addi c0_i32_155 v249
  v250.toNat
def k0_dev13 (d0 : Dev nD) : Nat :=
  let c0_i32_170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_11 : BitVec 32 := 0#32
  let v31 : BitVec 1 := Scalar.cmpi .sgt v2 c0_i32_11
  let v32 : BitVec 32 := Scalar.extui v31
  let c0_i32_12 : BitVec 32 := 0#32
  let v33 : BitVec 1 := Scalar.cmpi .slt v2 c0_i32_12
  let v34 : BitVec 32 := Scalar.extui v33
  let v35 : BitVec 32 := Scalar.subi v32 v34
  let c8_i32 : BitVec 32 := 8#32
  let c0_i32_13 : BitVec 32 := 0#32
  let v36 : BitVec 1 := Scalar.cmpi .sgt c8_i32 c0_i32_13
  let v37 : BitVec 32 := Scalar.extui v36
  let c0_i32_14 : BitVec 32 := 0#32
  let v38 : BitVec 1 := Scalar.cmpi .slt c8_i32 c0_i32_14
  let v39 : BitVec 32 := Scalar.extui v38
  let v40 : BitVec 32 := Scalar.subi v37 v39
  let v41 : BitVec 1 := Scalar.cmpi .ne v35 v40
  let v42 : BitVec 32 := Scalar.remsi v2 c8_i32
  let c0_i32_15 : BitVec 32 := 0#32
  let v43 : BitVec 1 := Scalar.cmpi .ne v42 c0_i32_15
  let v44 : BitVec 1 := Scalar.andi v41 v43
  let v30 : BitVec 32 := Scalar.divsi v2 c8_i32
  let c1_i32_16 : BitVec 32 := 1#32
  let v45 : BitVec 32 := Scalar.subi v30 c1_i32_16
  let v46 : BitVec 32 := Scalar.select v44 v45 v30
  let c8_i32_17 : BitVec 32 := 8#32
  let v47 : BitVec 32 := Scalar.muli v46 c8_i32_17
  let c8_i32_18 : BitVec 32 := 8#32
  let c0_i32_19 : BitVec 32 := 0#32
  let v48 : BitVec 1 := Scalar.cmpi .eq c8_i32_18 c0_i32_19
  let c1_i32_20 : BitVec 32 := 1#32
  let v49 : BitVec 32 := Scalar.select v48 c1_i32_20 c8_i32_18
  let v50 : BitVec 32 := Scalar.remsi v2 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c4_i32_160 : BitVec 32 := 4#32
  let v259 : BitVec 32 := Scalar.addi v57 c4_i32_160
  let c8_i32_161 : BitVec 32 := 8#32
  let c0_i32_162 : BitVec 32 := 0#32
  let v260 : BitVec 1 := Scalar.cmpi .eq c8_i32_161 c0_i32_162
  let c1_i32_163 : BitVec 32 := 1#32
  let v261 : BitVec 32 := Scalar.select v260 c1_i32_163 c8_i32_161
  let v262 : BitVec 32 := Scalar.remsi v259 v261
  let c0_i32_165 : BitVec 32 := 0#32
  let v264 : BitVec 1 := Scalar.cmpi .slt v262 c0_i32_165
  let c0_i32_166 : BitVec 32 := 0#32
  let v265 : BitVec 1 := Scalar.cmpi .slt v261 c0_i32_166
  let v266 : BitVec 1 := Scalar.xori v264 v265
  let c0_i32_164 : BitVec 32 := 0#32
  let v263 : BitVec 1 := Scalar.cmpi .ne v262 c0_i32_164
  let v267 : BitVec 1 := Scalar.andi v266 v263
  let v268 : BitVec 32 := Scalar.addi v262 v261
  let v269 : BitVec 32 := Scalar.select v267 v268 v262
  let v270 : BitVec 32 := Scalar.addi v47 v269
  let c1_i32_169 : BitVec 32 := 1#32
  let v271 : BitVec 32 := Scalar.muli v270 c1_i32_169
  let v272 : BitVec 32 := Scalar.addi c0_i32_170 v271
  v272.toNat
def k0_dev14 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_11 : BitVec 32 := 0#32
  let v31 : BitVec 1 := Scalar.cmpi .sgt v2 c0_i32_11
  let v32 : BitVec 32 := Scalar.extui v31
  let c0_i32_12 : BitVec 32 := 0#32
  let v33 : BitVec 1 := Scalar.cmpi .slt v2 c0_i32_12
  let v34 : BitVec 32 := Scalar.extui v33
  let v35 : BitVec 32 := Scalar.subi v32 v34
  let c8_i32 : BitVec 32 := 8#32
  let c0_i32_13 : BitVec 32 := 0#32
  let v36 : BitVec 1 := Scalar.cmpi .sgt c8_i32 c0_i32_13
  let v37 : BitVec 32 := Scalar.extui v36
  let c0_i32_14 : BitVec 32 := 0#32
  let v38 : BitVec 1 := Scalar.cmpi .slt c8_i32 c0_i32_14
  let v39 : BitVec 32 := Scalar.extui v38
  let v40 : BitVec 32 := Scalar.subi v37 v39
  let v41 : BitVec 1 := Scalar.cmpi .ne v35 v40
  let v42 : BitVec 32 := Scalar.remsi v2 c8_i32
  let c0_i32_15 : BitVec 32 := 0#32
  let v43 : BitVec 1 := Scalar.cmpi .ne v42 c0_i32_15
  let v44 : BitVec 1 := Scalar.andi v41 v43
  let v30 : BitVec 32 := Scalar.divsi v2 c8_i32
  let c1_i32_16 : BitVec 32 := 1#32
  let v45 : BitVec 32 := Scalar.subi v30 c1_i32_16
  let v46 : BitVec 32 := Scalar.select v44 v45 v30
  let c8_i32_17 : BitVec 32 := 8#32
  let v47 : BitVec 32 := Scalar.muli v46 c8_i32_17
  let c8_i32_18 : BitVec 32 := 8#32
  let c0_i32_19 : BitVec 32 := 0#32
  let v48 : BitVec 1 := Scalar.cmpi .eq c8_i32_18 c0_i32_19
  let c1_i32_20 : BitVec 32 := 1#32
  let v49 : BitVec 32 := Scalar.select v48 c1_i32_20 c8_i32_18
  let v50 : BitVec 32 := Scalar.remsi v2 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c5_i32_175 : BitVec 32 := 5#32
  let v281 : BitVec 32 := Scalar.addi v57 c5_i32_175
  let c8_i32_176 : BitVec 32 := 8#32
  let c0_i32_177 : BitVec 32 := 0#32
  let v282 : BitVec 1 := Scalar.cmpi .eq c8_i32_176 c0_i32_177
  let c1_i32_178 : BitVec 32 := 1#32
  let v283 : BitVec 32 := Scalar.select v282 c1_i32_178 c8_i32_176
  let v284 : BitVec 32 := Scalar.remsi v281 v283
  let c0_i32_180 : BitVec 32 := 0#32
  let v286 : BitVec 1 := Scalar.cmpi .slt v284 c0_i32_180
  let c0_i32_181 : BitVec 32 := 0#32
  let v287 : BitVec 1 := Scalar.cmpi .slt v283 c0_i32_181
  let v288 : BitVec 1 := Scalar.xori v286 v287
  let c0_i32_179 : BitVec 32 := 0#32
  let v285 : BitVec 1 := Scalar.cmpi .ne v284 c0_i32_179
  let v289 : BitVec 1 := Scalar.andi v288 v285
  let v290 : BitVec 32 := Scalar.addi v284 v283
  let v291 : BitVec 32 := Scalar.select v289 v290 v284
  let v292 : BitVec 32 := Scalar.addi v47 v291
  let c1_i32_184 : BitVec 32 := 1#32
  let v293 : BitVec 32 := Scalar.muli v292 c1_i32_184
  let v294 : BitVec 32 := Scalar.addi c0_i32_185 v293
  v294.toNat
def k0_dev15 (d0 : Dev nD) : Nat :=
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_11 : BitVec 32 := 0#32
  let v31 : BitVec 1 := Scalar.cmpi .sgt v2 c0_i32_11
  let v32 : BitVec 32 := Scalar.extui v31
  let c0_i32_12 : BitVec 32 := 0#32
  let v33 : BitVec 1 := Scalar.cmpi .slt v2 c0_i32_12
  let v34 : BitVec 32 := Scalar.extui v33
  let v35 : BitVec 32 := Scalar.subi v32 v34
  let c8_i32 : BitVec 32 := 8#32
  let c0_i32_13 : BitVec 32 := 0#32
  let v36 : BitVec 1 := Scalar.cmpi .sgt c8_i32 c0_i32_13
  let v37 : BitVec 32 := Scalar.extui v36
  let c0_i32_14 : BitVec 32 := 0#32
  let v38 : BitVec 1 := Scalar.cmpi .slt c8_i32 c0_i32_14
  let v39 : BitVec 32 := Scalar.extui v38
  let v40 : BitVec 32 := Scalar.subi v37 v39
  let v41 : BitVec 1 := Scalar.cmpi .ne v35 v40
  let v42 : BitVec 32 := Scalar.remsi v2 c8_i32
  let c0_i32_15 : BitVec 32 := 0#32
  let v43 : BitVec 1 := Scalar.cmpi .ne v42 c0_i32_15
  let v44 : BitVec 1 := Scalar.andi v41 v43
  let v30 : BitVec 32 := Scalar.divsi v2 c8_i32
  let c1_i32_16 : BitVec 32 := 1#32
  let v45 : BitVec 32 := Scalar.subi v30 c1_i32_16
  let v46 : BitVec 32 := Scalar.select v44 v45 v30
  let c8_i32_17 : BitVec 32 := 8#32
  let v47 : BitVec 32 := Scalar.muli v46 c8_i32_17
  let c8_i32_18 : BitVec 32 := 8#32
  let c0_i32_19 : BitVec 32 := 0#32
  let v48 : BitVec 1 := Scalar.cmpi .eq c8_i32_18 c0_i32_19
  let c1_i32_20 : BitVec 32 := 1#32
  let v49 : BitVec 32 := Scalar.select v48 c1_i32_20 c8_i32_18
  let v50 : BitVec 32 := Scalar.remsi v2 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c6_i32_190 : BitVec 32 := 6#32
  let v303 : BitVec 32 := Scalar.addi v57 c6_i32_190
  let c8_i32_191 : BitVec 32 := 8#32
  let c0_i32_192 : BitVec 32 := 0#32
  let v304 : BitVec 1 := Scalar.cmpi .eq c8_i32_191 c0_i32_192
  let c1_i32_193 : BitVec 32 := 1#32
  let v305 : BitVec 32 := Scalar.select v304 c1_i32_193 c8_i32_191
  let v306 : BitVec 32 := Scalar.remsi v303 v305
  let c0_i32_195 : BitVec 32 := 0#32
  let v308 : BitVec 1 := Scalar.cmpi .slt v306 c0_i32_195
  let c0_i32_196 : BitVec 32 := 0#32
  let v309 : BitVec 1 := Scalar.cmpi .slt v305 c0_i32_196
  let v310 : BitVec 1 := Scalar.xori v308 v309
  let c0_i32_194 : BitVec 32 := 0#32
  let v307 : BitVec 1 := Scalar.cmpi .ne v306 c0_i32_194
  let v311 : BitVec 1 := Scalar.andi v310 v307
  let v312 : BitVec 32 := Scalar.addi v306 v305
  let v313 : BitVec 32 := Scalar.select v311 v312 v306
  let v314 : BitVec 32 := Scalar.addi v47 v313
  let c1_i32_199 : BitVec 32 := 1#32
  let v315 : BitVec 32 := Scalar.muli v314 c1_i32_199
  let v316 : BitVec 32 := Scalar.addi c0_i32_200 v315
  v316.toNat
def k0_dev16 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_11 : BitVec 32 := 0#32
  let v31 : BitVec 1 := Scalar.cmpi .sgt v2 c0_i32_11
  let v32 : BitVec 32 := Scalar.extui v31
  let c0_i32_12 : BitVec 32 := 0#32
  let v33 : BitVec 1 := Scalar.cmpi .slt v2 c0_i32_12
  let v34 : BitVec 32 := Scalar.extui v33
  let v35 : BitVec 32 := Scalar.subi v32 v34
  let c8_i32 : BitVec 32 := 8#32
  let c0_i32_13 : BitVec 32 := 0#32
  let v36 : BitVec 1 := Scalar.cmpi .sgt c8_i32 c0_i32_13
  let v37 : BitVec 32 := Scalar.extui v36
  let c0_i32_14 : BitVec 32 := 0#32
  let v38 : BitVec 1 := Scalar.cmpi .slt c8_i32 c0_i32_14
  let v39 : BitVec 32 := Scalar.extui v38
  let v40 : BitVec 32 := Scalar.subi v37 v39
  let v41 : BitVec 1 := Scalar.cmpi .ne v35 v40
  let v42 : BitVec 32 := Scalar.remsi v2 c8_i32
  let c0_i32_15 : BitVec 32 := 0#32
  let v43 : BitVec 1 := Scalar.cmpi .ne v42 c0_i32_15
  let v44 : BitVec 1 := Scalar.andi v41 v43
  let v30 : BitVec 32 := Scalar.divsi v2 c8_i32
  let c1_i32_16 : BitVec 32 := 1#32
  let v45 : BitVec 32 := Scalar.subi v30 c1_i32_16
  let v46 : BitVec 32 := Scalar.select v44 v45 v30
  let c8_i32_17 : BitVec 32 := 8#32
  let v47 : BitVec 32 := Scalar.muli v46 c8_i32_17
  let c8_i32_18 : BitVec 32 := 8#32
  let c0_i32_19 : BitVec 32 := 0#32
  let v48 : BitVec 1 := Scalar.cmpi .eq c8_i32_18 c0_i32_19
  let c1_i32_20 : BitVec 32 := 1#32
  let v49 : BitVec 32 := Scalar.select v48 c1_i32_20 c8_i32_18
  let v50 : BitVec 32 := Scalar.remsi v2 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c7_i32_205 : BitVec 32 := 7#32
  let v325 : BitVec 32 := Scalar.addi v57 c7_i32_205
  let c8_i32_206 : BitVec 32 := 8#32
  let c0_i32_207 : BitVec 32 := 0#32
  let v326 : BitVec 1 := Scalar.cmpi .eq c8_i32_206 c0_i32_207
  let c1_i32_208 : BitVec 32 := 1#32
  let v327 : BitVec 32 := Scalar.select v326 c1_i32_208 c8_i32_206
  let v328 : BitVec 32 := Scalar.remsi v325 v327
  let c0_i32_210 : BitVec 32 := 0#32
  let v330 : BitVec 1 := Scalar.cmpi .slt v328 c0_i32_210
  let c0_i32_211 : BitVec 32 := 0#32
  let v331 : BitVec 1 := Scalar.cmpi .slt v327 c0_i32_211
  let v332 : BitVec 1 := Scalar.xori v330 v331
  let c0_i32_209 : BitVec 32 := 0#32
  let v329 : BitVec 1 := Scalar.cmpi .ne v328 c0_i32_209
  let v333 : BitVec 1 := Scalar.andi v332 v329
  let v334 : BitVec 32 := Scalar.addi v328 v327
  let v335 : BitVec 32 := Scalar.select v333 v334 v328
  let v336 : BitVec 32 := Scalar.addi v47 v335
  let c1_i32_214 : BitVec 32 := 1#32
  let v337 : BitVec 32 := Scalar.muli v336 c1_i32_214
  let v338 : BitVec 32 := Scalar.addi c0_i32_215 v337
  v338.toNat
def k0_off3 (d0 : Dev nD) : Fin 3 → Nat :=
  let c4_i32_24 : BitVec 32 := 4#32
  let c3_i32 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v58 : BitVec 32 := Scalar.subi c3_i32 v19
  let v59 : BitVec 32 := Scalar.muli c4_i32_24 v58
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v60 : BitVec 32 := Scalar.addi v59 v29
  let c0_i32_240 : BitVec 32 := 0#32
  let c0_i32_241 : BitVec 32 := 0#32
  ![v60.toNat, 0, 0]
def k0_dev17 (d0 : Dev nD) : Nat :=
  let c0_i32_239 : BitVec 32 := 0#32
  let c4_i32_228 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v355 : BitVec 32 := Scalar.muli c4_i32_228 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_229 : BitVec 32 := 1#32
  let v356 : BitVec 32 := Scalar.addi v29 c1_i32_229
  let c4_i32_230 : BitVec 32 := 4#32
  let c0_i32_231 : BitVec 32 := 0#32
  let v357 : BitVec 1 := Scalar.cmpi .eq c4_i32_230 c0_i32_231
  let c1_i32_232 : BitVec 32 := 1#32
  let v358 : BitVec 32 := Scalar.select v357 c1_i32_232 c4_i32_230
  let v359 : BitVec 32 := Scalar.remsi v356 v358
  let c0_i32_234 : BitVec 32 := 0#32
  let v361 : BitVec 1 := Scalar.cmpi .slt v359 c0_i32_234
  let c0_i32_235 : BitVec 32 := 0#32
  let v362 : BitVec 1 := Scalar.cmpi .slt v358 c0_i32_235
  let v363 : BitVec 1 := Scalar.xori v361 v362
  let c0_i32_233 : BitVec 32 := 0#32
  let v360 : BitVec 1 := Scalar.cmpi .ne v359 c0_i32_233
  let v364 : BitVec 1 := Scalar.andi v363 v360
  let v365 : BitVec 32 := Scalar.addi v359 v358
  let v366 : BitVec 32 := Scalar.select v364 v365 v359
  let v367 : BitVec 32 := Scalar.addi v355 v366
  let c1_i32_238 : BitVec 32 := 1#32
  let v368 : BitVec 32 := Scalar.muli v367 c1_i32_238
  let v369 : BitVec 32 := Scalar.addi c0_i32_239 v368
  v369.toNat
def k0_dev18 (d0 : Dev nD) : Nat :=
  let c0_i32_255 : BitVec 32 := 0#32
  let c4_i32_244 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v378 : BitVec 32 := Scalar.muli c4_i32_244 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_245 : BitVec 32 := 2#32
  let v379 : BitVec 32 := Scalar.addi v29 c2_i32_245
  let c4_i32_246 : BitVec 32 := 4#32
  let c0_i32_247 : BitVec 32 := 0#32
  let v380 : BitVec 1 := Scalar.cmpi .eq c4_i32_246 c0_i32_247
  let c1_i32_248 : BitVec 32 := 1#32
  let v381 : BitVec 32 := Scalar.select v380 c1_i32_248 c4_i32_246
  let v382 : BitVec 32 := Scalar.remsi v379 v381
  let c0_i32_250 : BitVec 32 := 0#32
  let v384 : BitVec 1 := Scalar.cmpi .slt v382 c0_i32_250
  let c0_i32_251 : BitVec 32 := 0#32
  let v385 : BitVec 1 := Scalar.cmpi .slt v381 c0_i32_251
  let v386 : BitVec 1 := Scalar.xori v384 v385
  let c0_i32_249 : BitVec 32 := 0#32
  let v383 : BitVec 1 := Scalar.cmpi .ne v382 c0_i32_249
  let v387 : BitVec 1 := Scalar.andi v386 v383
  let v388 : BitVec 32 := Scalar.addi v382 v381
  let v389 : BitVec 32 := Scalar.select v387 v388 v382
  let v390 : BitVec 32 := Scalar.addi v378 v389
  let c1_i32_254 : BitVec 32 := 1#32
  let v391 : BitVec 32 := Scalar.muli v390 c1_i32_254
  let v392 : BitVec 32 := Scalar.addi c0_i32_255 v391
  v392.toNat
def k0_dev19 (d0 : Dev nD) : Nat :=
  let c0_i32_271 : BitVec 32 := 0#32
  let c4_i32_260 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v401 : BitVec 32 := Scalar.muli c4_i32_260 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_261 : BitVec 32 := 3#32
  let v402 : BitVec 32 := Scalar.addi v29 c3_i32_261
  let c4_i32_262 : BitVec 32 := 4#32
  let c0_i32_263 : BitVec 32 := 0#32
  let v403 : BitVec 1 := Scalar.cmpi .eq c4_i32_262 c0_i32_263
  let c1_i32_264 : BitVec 32 := 1#32
  let v404 : BitVec 32 := Scalar.select v403 c1_i32_264 c4_i32_262
  let v405 : BitVec 32 := Scalar.remsi v402 v404
  let c0_i32_266 : BitVec 32 := 0#32
  let v407 : BitVec 1 := Scalar.cmpi .slt v405 c0_i32_266
  let c0_i32_267 : BitVec 32 := 0#32
  let v408 : BitVec 1 := Scalar.cmpi .slt v404 c0_i32_267
  let v409 : BitVec 1 := Scalar.xori v407 v408
  let c0_i32_265 : BitVec 32 := 0#32
  let v406 : BitVec 1 := Scalar.cmpi .ne v405 c0_i32_265
  let v410 : BitVec 1 := Scalar.andi v409 v406
  let v411 : BitVec 32 := Scalar.addi v405 v404
  let v412 : BitVec 32 := Scalar.select v410 v411 v405
  let v413 : BitVec 32 := Scalar.addi v401 v412
  let c1_i32_270 : BitVec 32 := 1#32
  let v414 : BitVec 32 := Scalar.muli v413 c1_i32_270
  let v415 : BitVec 32 := Scalar.addi c0_i32_271 v414
  v415.toNat
def k0_dev20 (d0 : Dev nD) : Nat :=
  let c0_i32_279 : BitVec 32 := 0#32
  let c4_i32_32 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_25 : BitVec 32 := 1#32
  let v61 : BitVec 32 := Scalar.addi v19 c1_i32_25
  let c2_i32_31 : BitVec 32 := 2#32
  let c2_i32 : BitVec 32 := 2#32
  let c0_i32_26 : BitVec 32 := 0#32
  let v62 : BitVec 1 := Scalar.cmpi .eq c2_i32 c0_i32_26
  let c1_i32_27 : BitVec 32 := 1#32
  let v63 : BitVec 32 := Scalar.select v62 c1_i32_27 c2_i32
  let v64 : BitVec 32 := Scalar.remsi v19 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v72 : BitVec 32 := Scalar.muli c2_i32_31 v71
  let v73 : BitVec 32 := Scalar.subi v61 v72
  let v74 : BitVec 32 := Scalar.muli c4_i32_32 v73
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v75 : BitVec 32 := Scalar.addi v74 v29
  let c1_i32_278 : BitVec 32 := 1#32
  let v424 : BitVec 32 := Scalar.muli v75 c1_i32_278
  let v425 : BitVec 32 := Scalar.addi c0_i32_279 v424
  v425.toNat
def k0_off4 (d0 : Dev nD) : Fin 3 → Nat :=
  let c4_i32_292 : BitVec 32 := 4#32
  let c3_i32_291 : BitVec 32 := 3#32
  let c4_i32_32 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_25 : BitVec 32 := 1#32
  let v61 : BitVec 32 := Scalar.addi v19 c1_i32_25
  let c2_i32_31 : BitVec 32 := 2#32
  let c2_i32 : BitVec 32 := 2#32
  let c0_i32_26 : BitVec 32 := 0#32
  let v62 : BitVec 1 := Scalar.cmpi .eq c2_i32 c0_i32_26
  let c1_i32_27 : BitVec 32 := 1#32
  let v63 : BitVec 32 := Scalar.select v62 c1_i32_27 c2_i32
  let v64 : BitVec 32 := Scalar.remsi v19 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v72 : BitVec 32 := Scalar.muli c2_i32_31 v71
  let v73 : BitVec 32 := Scalar.subi v61 v72
  let v74 : BitVec 32 := Scalar.muli c4_i32_32 v73
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v75 : BitVec 32 := Scalar.addi v74 v29
  let c0_i32_285 : BitVec 32 := 0#32
  let v435 : BitVec 1 := Scalar.cmpi .sgt v75 c0_i32_285
  let v436 : BitVec 32 := Scalar.extui v435
  let c0_i32_286 : BitVec 32 := 0#32
  let v437 : BitVec 1 := Scalar.cmpi .slt v75 c0_i32_286
  let v438 : BitVec 32 := Scalar.extui v437
  let v439 : BitVec 32 := Scalar.subi v436 v438
  let c4_i32_284 : BitVec 32 := 4#32
  let c0_i32_287 : BitVec 32 := 0#32
  let v440 : BitVec 1 := Scalar.cmpi .sgt c4_i32_284 c0_i32_287
  let v441 : BitVec 32 := Scalar.extui v440
  let c0_i32_288 : BitVec 32 := 0#32
  let v442 : BitVec 1 := Scalar.cmpi .slt c4_i32_284 c0_i32_288
  let v443 : BitVec 32 := Scalar.extui v442
  let v444 : BitVec 32 := Scalar.subi v441 v443
  let v445 : BitVec 1 := Scalar.cmpi .ne v439 v444
  let v446 : BitVec 32 := Scalar.remsi v75 c4_i32_284
  let c0_i32_289 : BitVec 32 := 0#32
  let v447 : BitVec 1 := Scalar.cmpi .ne v446 c0_i32_289
  let v448 : BitVec 1 := Scalar.andi v445 v447
  let v434 : BitVec 32 := Scalar.divsi v75 c4_i32_284
  let c1_i32_290 : BitVec 32 := 1#32
  let v449 : BitVec 32 := Scalar.subi v434 c1_i32_290
  let v450 : BitVec 32 := Scalar.select v448 v449 v434
  let v451 : BitVec 32 := Scalar.subi c3_i32_291 v450
  let v452 : BitVec 32 := Scalar.muli c4_i32_292 v451
  let c4_i32_293 : BitVec 32 := 4#32
  let c0_i32_294 : BitVec 32 := 0#32
  let v453 : BitVec 1 := Scalar.cmpi .eq c4_i32_293 c0_i32_294
  let c1_i32_295 : BitVec 32 := 1#32
  let v454 : BitVec 32 := Scalar.select v453 c1_i32_295 c4_i32_293
  let v455 : BitVec 32 := Scalar.remsi v75 v454
  let c0_i32_297 : BitVec 32 := 0#32
  let v457 : BitVec 1 := Scalar.cmpi .slt v455 c0_i32_297
  let c0_i32_298 : BitVec 32 := 0#32
  let v458 : BitVec 1 := Scalar.cmpi .slt v454 c0_i32_298
  let v459 : BitVec 1 := Scalar.xori v457 v458
  let c0_i32_296 : BitVec 32 := 0#32
  let v456 : BitVec 1 := Scalar.cmpi .ne v455 c0_i32_296
  let v460 : BitVec 1 := Scalar.andi v459 v456
  let v461 : BitVec 32 := Scalar.addi v455 v454
  let v462 : BitVec 32 := Scalar.select v460 v461 v455
  let v463 : BitVec 32 := Scalar.addi v452 v462
  let c0_i32_303 : BitVec 32 := 0#32
  let c0_i32_304 : BitVec 32 := 0#32
  ![v463.toNat, 0, 0]
def k0_dev21 (d0 : Dev nD) : Nat :=
  let c0_i32_348 : BitVec 32 := 0#32
  let c4_i32_337 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v532 : BitVec 32 := Scalar.muli c4_i32_337 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_338 : BitVec 32 := 1#32
  let v533 : BitVec 32 := Scalar.addi v29 c1_i32_338
  let c4_i32_339 : BitVec 32 := 4#32
  let c0_i32_340 : BitVec 32 := 0#32
  let v534 : BitVec 1 := Scalar.cmpi .eq c4_i32_339 c0_i32_340
  let c1_i32_341 : BitVec 32 := 1#32
  let v535 : BitVec 32 := Scalar.select v534 c1_i32_341 c4_i32_339
  let v536 : BitVec 32 := Scalar.remsi v533 v535
  let c0_i32_343 : BitVec 32 := 0#32
  let v538 : BitVec 1 := Scalar.cmpi .slt v536 c0_i32_343
  let c0_i32_344 : BitVec 32 := 0#32
  let v539 : BitVec 1 := Scalar.cmpi .slt v535 c0_i32_344
  let v540 : BitVec 1 := Scalar.xori v538 v539
  let c0_i32_342 : BitVec 32 := 0#32
  let v537 : BitVec 1 := Scalar.cmpi .ne v536 c0_i32_342
  let v541 : BitVec 1 := Scalar.andi v540 v537
  let v542 : BitVec 32 := Scalar.addi v536 v535
  let v543 : BitVec 32 := Scalar.select v541 v542 v536
  let v544 : BitVec 32 := Scalar.addi v532 v543
  let c1_i32_347 : BitVec 32 := 1#32
  let v545 : BitVec 32 := Scalar.muli v544 c1_i32_347
  let v546 : BitVec 32 := Scalar.addi c0_i32_348 v545
  v546.toNat
def k0_dev22 (d0 : Dev nD) : Nat :=
  let c0_i32_394 : BitVec 32 := 0#32
  let c4_i32_383 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v615 : BitVec 32 := Scalar.muli c4_i32_383 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_384 : BitVec 32 := 2#32
  let v616 : BitVec 32 := Scalar.addi v29 c2_i32_384
  let c4_i32_385 : BitVec 32 := 4#32
  let c0_i32_386 : BitVec 32 := 0#32
  let v617 : BitVec 1 := Scalar.cmpi .eq c4_i32_385 c0_i32_386
  let c1_i32_387 : BitVec 32 := 1#32
  let v618 : BitVec 32 := Scalar.select v617 c1_i32_387 c4_i32_385
  let v619 : BitVec 32 := Scalar.remsi v616 v618
  let c0_i32_389 : BitVec 32 := 0#32
  let v621 : BitVec 1 := Scalar.cmpi .slt v619 c0_i32_389
  let c0_i32_390 : BitVec 32 := 0#32
  let v622 : BitVec 1 := Scalar.cmpi .slt v618 c0_i32_390
  let v623 : BitVec 1 := Scalar.xori v621 v622
  let c0_i32_388 : BitVec 32 := 0#32
  let v620 : BitVec 1 := Scalar.cmpi .ne v619 c0_i32_388
  let v624 : BitVec 1 := Scalar.andi v623 v620
  let v625 : BitVec 32 := Scalar.addi v619 v618
  let v626 : BitVec 32 := Scalar.select v624 v625 v619
  let v627 : BitVec 32 := Scalar.addi v615 v626
  let c1_i32_393 : BitVec 32 := 1#32
  let v628 : BitVec 32 := Scalar.muli v627 c1_i32_393
  let v629 : BitVec 32 := Scalar.addi c0_i32_394 v628
  v629.toNat
def k0_dev23 (d0 : Dev nD) : Nat :=
  let c0_i32_440 : BitVec 32 := 0#32
  let c4_i32_429 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v698 : BitVec 32 := Scalar.muli c4_i32_429 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_430 : BitVec 32 := 3#32
  let v699 : BitVec 32 := Scalar.addi v29 c3_i32_430
  let c4_i32_431 : BitVec 32 := 4#32
  let c0_i32_432 : BitVec 32 := 0#32
  let v700 : BitVec 1 := Scalar.cmpi .eq c4_i32_431 c0_i32_432
  let c1_i32_433 : BitVec 32 := 1#32
  let v701 : BitVec 32 := Scalar.select v700 c1_i32_433 c4_i32_431
  let v702 : BitVec 32 := Scalar.remsi v699 v701
  let c0_i32_435 : BitVec 32 := 0#32
  let v704 : BitVec 1 := Scalar.cmpi .slt v702 c0_i32_435
  let c0_i32_436 : BitVec 32 := 0#32
  let v705 : BitVec 1 := Scalar.cmpi .slt v701 c0_i32_436
  let v706 : BitVec 1 := Scalar.xori v704 v705
  let c0_i32_434 : BitVec 32 := 0#32
  let v703 : BitVec 1 := Scalar.cmpi .ne v702 c0_i32_434
  let v707 : BitVec 1 := Scalar.andi v706 v703
  let v708 : BitVec 32 := Scalar.addi v702 v701
  let v709 : BitVec 32 := Scalar.select v707 v708 v702
  let v710 : BitVec 32 := Scalar.addi v698 v709
  let c1_i32_439 : BitVec 32 := 1#32
  let v711 : BitVec 32 := Scalar.muli v710 c1_i32_439
  let v712 : BitVec 32 := Scalar.addi c0_i32_440 v711
  v712.toNat
def k0_off5 (d0 : Dev nD) (c1_i32_445 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_11 : BitVec 32 := 0#32
  let v31 : BitVec 1 := Scalar.cmpi .sgt v2 c0_i32_11
  let v32 : BitVec 32 := Scalar.extui v31
  let c0_i32_12 : BitVec 32 := 0#32
  let v33 : BitVec 1 := Scalar.cmpi .slt v2 c0_i32_12
  let v34 : BitVec 32 := Scalar.extui v33
  let v35 : BitVec 32 := Scalar.subi v32 v34
  let c8_i32 : BitVec 32 := 8#32
  let c0_i32_13 : BitVec 32 := 0#32
  let v36 : BitVec 1 := Scalar.cmpi .sgt c8_i32 c0_i32_13
  let v37 : BitVec 32 := Scalar.extui v36
  let c0_i32_14 : BitVec 32 := 0#32
  let v38 : BitVec 1 := Scalar.cmpi .slt c8_i32 c0_i32_14
  let v39 : BitVec 32 := Scalar.extui v38
  let v40 : BitVec 32 := Scalar.subi v37 v39
  let v41 : BitVec 1 := Scalar.cmpi .ne v35 v40
  let v42 : BitVec 32 := Scalar.remsi v2 c8_i32
  let c0_i32_15 : BitVec 32 := 0#32
  let v43 : BitVec 1 := Scalar.cmpi .ne v42 c0_i32_15
  let v44 : BitVec 1 := Scalar.andi v41 v43
  let v30 : BitVec 32 := Scalar.divsi v2 c8_i32
  let c1_i32_16 : BitVec 32 := 1#32
  let v45 : BitVec 32 := Scalar.subi v30 c1_i32_16
  let v46 : BitVec 32 := Scalar.select v44 v45 v30
  let c8_i32_17 : BitVec 32 := 8#32
  let v47 : BitVec 32 := Scalar.muli v46 c8_i32_17
  let c8_i32_18 : BitVec 32 := 8#32
  let c0_i32_19 : BitVec 32 := 0#32
  let v48 : BitVec 1 := Scalar.cmpi .eq c8_i32_18 c0_i32_19
  let c1_i32_20 : BitVec 32 := 1#32
  let v49 : BitVec 32 := Scalar.select v48 c1_i32_20 c8_i32_18
  let v50 : BitVec 32 := Scalar.remsi v2 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let v721 : BitVec 32 := Scalar.subi v57 c1_i32_445
  let c8_i32_446 : BitVec 32 := 8#32
  let c0_i32_447 : BitVec 32 := 0#32
  let v722 : BitVec 1 := Scalar.cmpi .eq c8_i32_446 c0_i32_447
  let c1_i32_448 : BitVec 32 := 1#32
  let v723 : BitVec 32 := Scalar.select v722 c1_i32_448 c8_i32_446
  let v724 : BitVec 32 := Scalar.remsi v721 v723
  let c0_i32_450 : BitVec 32 := 0#32
  let v726 : BitVec 1 := Scalar.cmpi .slt v724 c0_i32_450
  let c0_i32_451 : BitVec 32 := 0#32
  let v727 : BitVec 1 := Scalar.cmpi .slt v723 c0_i32_451
  let v728 : BitVec 1 := Scalar.xori v726 v727
  let c0_i32_449 : BitVec 32 := 0#32
  let v725 : BitVec 1 := Scalar.cmpi .ne v724 c0_i32_449
  let v729 : BitVec 1 := Scalar.andi v728 v725
  let v730 : BitVec 32 := Scalar.addi v724 v723
  let v731 : BitVec 32 := Scalar.select v729 v730 v724
  let v732 : BitVec 32 := Scalar.addi v47 v731
  let c0_i32_463 : BitVec 32 := 0#32
  let c0_i32_464 : BitVec 32 := 0#32
  ![v732.toNat, 0, 0]
def k0_off6 (d0 : Dev nD) (c1_i32_600 : BitVec 32) : Fin 3 → Nat :=
  let c4_i32_615 : BitVec 32 := 4#32
  let c3_i32_614 : BitVec 32 := 3#32
  let c4_i32_599 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v945 : BitVec 32 := Scalar.muli c4_i32_599 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v946 : BitVec 32 := Scalar.subi v29 c1_i32_600
  let c4_i32_601 : BitVec 32 := 4#32
  let c0_i32_602 : BitVec 32 := 0#32
  let v947 : BitVec 1 := Scalar.cmpi .eq c4_i32_601 c0_i32_602
  let c1_i32_603 : BitVec 32 := 1#32
  let v948 : BitVec 32 := Scalar.select v947 c1_i32_603 c4_i32_601
  let v949 : BitVec 32 := Scalar.remsi v946 v948
  let c0_i32_605 : BitVec 32 := 0#32
  let v951 : BitVec 1 := Scalar.cmpi .slt v949 c0_i32_605
  let c0_i32_606 : BitVec 32 := 0#32
  let v952 : BitVec 1 := Scalar.cmpi .slt v948 c0_i32_606
  let v953 : BitVec 1 := Scalar.xori v951 v952
  let c0_i32_604 : BitVec 32 := 0#32
  let v950 : BitVec 1 := Scalar.cmpi .ne v949 c0_i32_604
  let v954 : BitVec 1 := Scalar.andi v953 v950
  let v955 : BitVec 32 := Scalar.addi v949 v948
  let v956 : BitVec 32 := Scalar.select v954 v955 v949
  let v957 : BitVec 32 := Scalar.addi v945 v956
  let c0_i32_608 : BitVec 32 := 0#32
  let v959 : BitVec 1 := Scalar.cmpi .sgt v957 c0_i32_608
  let v960 : BitVec 32 := Scalar.extui v959
  let c0_i32_609 : BitVec 32 := 0#32
  let v961 : BitVec 1 := Scalar.cmpi .slt v957 c0_i32_609
  let v962 : BitVec 32 := Scalar.extui v961
  let v963 : BitVec 32 := Scalar.subi v960 v962
  let c4_i32_607 : BitVec 32 := 4#32
  let c0_i32_610 : BitVec 32 := 0#32
  let v964 : BitVec 1 := Scalar.cmpi .sgt c4_i32_607 c0_i32_610
  let v965 : BitVec 32 := Scalar.extui v964
  let c0_i32_611 : BitVec 32 := 0#32
  let v966 : BitVec 1 := Scalar.cmpi .slt c4_i32_607 c0_i32_611
  let v967 : BitVec 32 := Scalar.extui v966
  let v968 : BitVec 32 := Scalar.subi v965 v967
  let v969 : BitVec 1 := Scalar.cmpi .ne v963 v968
  let v970 : BitVec 32 := Scalar.remsi v957 c4_i32_607
  let c0_i32_612 : BitVec 32 := 0#32
  let v971 : BitVec 1 := Scalar.cmpi .ne v970 c0_i32_612
  let v972 : BitVec 1 := Scalar.andi v969 v971
  let v958 : BitVec 32 := Scalar.divsi v957 c4_i32_607
  let c1_i32_613 : BitVec 32 := 1#32
  let v973 : BitVec 32 := Scalar.subi v958 c1_i32_613
  let v974 : BitVec 32 := Scalar.select v972 v973 v958
  let v975 : BitVec 32 := Scalar.subi c3_i32_614 v974
  let v976 : BitVec 32 := Scalar.muli c4_i32_615 v975
  let c4_i32_616 : BitVec 32 := 4#32
  let c0_i32_617 : BitVec 32 := 0#32
  let v977 : BitVec 1 := Scalar.cmpi .eq c4_i32_616 c0_i32_617
  let c1_i32_618 : BitVec 32 := 1#32
  let v978 : BitVec 32 := Scalar.select v977 c1_i32_618 c4_i32_616
  let v979 : BitVec 32 := Scalar.remsi v957 v978
  let c0_i32_620 : BitVec 32 := 0#32
  let v981 : BitVec 1 := Scalar.cmpi .slt v979 c0_i32_620
  let c0_i32_621 : BitVec 32 := 0#32
  let v982 : BitVec 1 := Scalar.cmpi .slt v978 c0_i32_621
  let v983 : BitVec 1 := Scalar.xori v981 v982
  let c0_i32_619 : BitVec 32 := 0#32
  let v980 : BitVec 1 := Scalar.cmpi .ne v979 c0_i32_619
  let v984 : BitVec 1 := Scalar.andi v983 v980
  let v985 : BitVec 32 := Scalar.addi v979 v978
  let v986 : BitVec 32 := Scalar.select v984 v985 v979
  let v987 : BitVec 32 := Scalar.addi v976 v986
  let c0_i32_634 : BitVec 32 := 0#32
  let c0_i32_635 : BitVec 32 := 0#32
  ![v987.toNat, 0, 0]
def k0_off7 (d0 : Dev nD) (c1_i32_717 : BitVec 32) : Fin 3 → Nat :=
  let c4_i32_761 : BitVec 32 := 4#32
  let c3_i32_760 : BitVec 32 := 3#32
  let c4_i32_746 : BitVec 32 := 4#32
  let c4_i32_716 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1137 : BitVec 32 := Scalar.muli c4_i32_716 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1138 : BitVec 32 := Scalar.subi v29 c1_i32_717
  let c4_i32_718 : BitVec 32 := 4#32
  let c0_i32_719 : BitVec 32 := 0#32
  let v1139 : BitVec 1 := Scalar.cmpi .eq c4_i32_718 c0_i32_719
  let c1_i32_720 : BitVec 32 := 1#32
  let v1140 : BitVec 32 := Scalar.select v1139 c1_i32_720 c4_i32_718
  let v1141 : BitVec 32 := Scalar.remsi v1138 v1140
  let c0_i32_722 : BitVec 32 := 0#32
  let v1143 : BitVec 1 := Scalar.cmpi .slt v1141 c0_i32_722
  let c0_i32_723 : BitVec 32 := 0#32
  let v1144 : BitVec 1 := Scalar.cmpi .slt v1140 c0_i32_723
  let v1145 : BitVec 1 := Scalar.xori v1143 v1144
  let c0_i32_721 : BitVec 32 := 0#32
  let v1142 : BitVec 1 := Scalar.cmpi .ne v1141 c0_i32_721
  let v1146 : BitVec 1 := Scalar.andi v1145 v1142
  let v1147 : BitVec 32 := Scalar.addi v1141 v1140
  let v1148 : BitVec 32 := Scalar.select v1146 v1147 v1141
  let v1149 : BitVec 32 := Scalar.addi v1137 v1148
  let c0_i32_725 : BitVec 32 := 0#32
  let v1151 : BitVec 1 := Scalar.cmpi .sgt v1149 c0_i32_725
  let v1152 : BitVec 32 := Scalar.extui v1151
  let c0_i32_726 : BitVec 32 := 0#32
  let v1153 : BitVec 1 := Scalar.cmpi .slt v1149 c0_i32_726
  let v1154 : BitVec 32 := Scalar.extui v1153
  let v1155 : BitVec 32 := Scalar.subi v1152 v1154
  let c4_i32_724 : BitVec 32 := 4#32
  let c0_i32_727 : BitVec 32 := 0#32
  let v1156 : BitVec 1 := Scalar.cmpi .sgt c4_i32_724 c0_i32_727
  let v1157 : BitVec 32 := Scalar.extui v1156
  let c0_i32_728 : BitVec 32 := 0#32
  let v1158 : BitVec 1 := Scalar.cmpi .slt c4_i32_724 c0_i32_728
  let v1159 : BitVec 32 := Scalar.extui v1158
  let v1160 : BitVec 32 := Scalar.subi v1157 v1159
  let v1161 : BitVec 1 := Scalar.cmpi .ne v1155 v1160
  let v1162 : BitVec 32 := Scalar.remsi v1149 c4_i32_724
  let c0_i32_729 : BitVec 32 := 0#32
  let v1163 : BitVec 1 := Scalar.cmpi .ne v1162 c0_i32_729
  let v1164 : BitVec 1 := Scalar.andi v1161 v1163
  let v1150 : BitVec 32 := Scalar.divsi v1149 c4_i32_724
  let c1_i32_730 : BitVec 32 := 1#32
  let v1165 : BitVec 32 := Scalar.subi v1150 c1_i32_730
  let v1166 : BitVec 32 := Scalar.select v1164 v1165 v1150
  let c1_i32_731 : BitVec 32 := 1#32
  let v1167 : BitVec 32 := Scalar.addi v1166 c1_i32_731
  let c2_i32_745 : BitVec 32 := 2#32
  let c0_i32_733 : BitVec 32 := 0#32
  let v1169 : BitVec 1 := Scalar.cmpi .sgt v1149 c0_i32_733
  let v1170 : BitVec 32 := Scalar.extui v1169
  let c0_i32_734 : BitVec 32 := 0#32
  let v1171 : BitVec 1 := Scalar.cmpi .slt v1149 c0_i32_734
  let v1172 : BitVec 32 := Scalar.extui v1171
  let v1173 : BitVec 32 := Scalar.subi v1170 v1172
  let c4_i32_732 : BitVec 32 := 4#32
  let c0_i32_735 : BitVec 32 := 0#32
  let v1174 : BitVec 1 := Scalar.cmpi .sgt c4_i32_732 c0_i32_735
  let v1175 : BitVec 32 := Scalar.extui v1174
  let c0_i32_736 : BitVec 32 := 0#32
  let v1176 : BitVec 1 := Scalar.cmpi .slt c4_i32_732 c0_i32_736
  let v1177 : BitVec 32 := Scalar.extui v1176
  let v1178 : BitVec 32 := Scalar.subi v1175 v1177
  let v1179 : BitVec 1 := Scalar.cmpi .ne v1173 v1178
  let v1180 : BitVec 32 := Scalar.remsi v1149 c4_i32_732
  let c0_i32_737 : BitVec 32 := 0#32
  let v1181 : BitVec 1 := Scalar.cmpi .ne v1180 c0_i32_737
  let v1182 : BitVec 1 := Scalar.andi v1179 v1181
  let v1168 : BitVec 32 := Scalar.divsi v1149 c4_i32_732
  let c1_i32_738 : BitVec 32 := 1#32
  let v1183 : BitVec 32 := Scalar.subi v1168 c1_i32_738
  let v1184 : BitVec 32 := Scalar.select v1182 v1183 v1168
  let c2_i32_739 : BitVec 32 := 2#32
  let c0_i32_740 : BitVec 32 := 0#32
  let v1185 : BitVec 1 := Scalar.cmpi .eq c2_i32_739 c0_i32_740
  let c1_i32_741 : BitVec 32 := 1#32
  let v1186 : BitVec 32 := Scalar.select v1185 c1_i32_741 c2_i32_739
  let v1187 : BitVec 32 := Scalar.remsi v1184 v1186
  let c0_i32_743 : BitVec 32 := 0#32
  let v1189 : BitVec 1 := Scalar.cmpi .slt v1187 c0_i32_743
  let c0_i32_744 : BitVec 32 := 0#32
  let v1190 : BitVec 1 := Scalar.cmpi .slt v1186 c0_i32_744
  let v1191 : BitVec 1 := Scalar.xori v1189 v1190
  let c0_i32_742 : BitVec 32 := 0#32
  let v1188 : BitVec 1 := Scalar.cmpi .ne v1187 c0_i32_742
  let v1192 : BitVec 1 := Scalar.andi v1191 v1188
  let v1193 : BitVec 32 := Scalar.addi v1187 v1186
  let v1194 : BitVec 32 := Scalar.select v1192 v1193 v1187
  let v1195 : BitVec 32 := Scalar.muli c2_i32_745 v1194
  let v1196 : BitVec 32 := Scalar.subi v1167 v1195
  let v1197 : BitVec 32 := Scalar.muli c4_i32_746 v1196
  let c4_i32_747 : BitVec 32 := 4#32
  let c0_i32_748 : BitVec 32 := 0#32
  let v1198 : BitVec 1 := Scalar.cmpi .eq c4_i32_747 c0_i32_748
  let c1_i32_749 : BitVec 32 := 1#32
  let v1199 : BitVec 32 := Scalar.select v1198 c1_i32_749 c4_i32_747
  let v1200 : BitVec 32 := Scalar.remsi v1149 v1199
  let c0_i32_751 : BitVec 32 := 0#32
  let v1202 : BitVec 1 := Scalar.cmpi .slt v1200 c0_i32_751
  let c0_i32_752 : BitVec 32 := 0#32
  let v1203 : BitVec 1 := Scalar.cmpi .slt v1199 c0_i32_752
  let v1204 : BitVec 1 := Scalar.xori v1202 v1203
  let c0_i32_750 : BitVec 32 := 0#32
  let v1201 : BitVec 1 := Scalar.cmpi .ne v1200 c0_i32_750
  let v1205 : BitVec 1 := Scalar.andi v1204 v1201
  let v1206 : BitVec 32 := Scalar.addi v1200 v1199
  let v1207 : BitVec 32 := Scalar.select v1205 v1206 v1200
  let v1208 : BitVec 32 := Scalar.addi v1197 v1207
  let c0_i32_754 : BitVec 32 := 0#32
  let v1210 : BitVec 1 := Scalar.cmpi .sgt v1208 c0_i32_754
  let v1211 : BitVec 32 := Scalar.extui v1210
  let c0_i32_755 : BitVec 32 := 0#32
  let v1212 : BitVec 1 := Scalar.cmpi .slt v1208 c0_i32_755
  let v1213 : BitVec 32 := Scalar.extui v1212
  let v1214 : BitVec 32 := Scalar.subi v1211 v1213
  let c4_i32_753 : BitVec 32 := 4#32
  let c0_i32_756 : BitVec 32 := 0#32
  let v1215 : BitVec 1 := Scalar.cmpi .sgt c4_i32_753 c0_i32_756
  let v1216 : BitVec 32 := Scalar.extui v1215
  let c0_i32_757 : BitVec 32 := 0#32
  let v1217 : BitVec 1 := Scalar.cmpi .slt c4_i32_753 c0_i32_757
  let v1218 : BitVec 32 := Scalar.extui v1217
  let v1219 : BitVec 32 := Scalar.subi v1216 v1218
  let v1220 : BitVec 1 := Scalar.cmpi .ne v1214 v1219
  let v1221 : BitVec 32 := Scalar.remsi v1208 c4_i32_753
  let c0_i32_758 : BitVec 32 := 0#32
  let v1222 : BitVec 1 := Scalar.cmpi .ne v1221 c0_i32_758
  let v1223 : BitVec 1 := Scalar.andi v1220 v1222
  let v1209 : BitVec 32 := Scalar.divsi v1208 c4_i32_753
  let c1_i32_759 : BitVec 32 := 1#32
  let v1224 : BitVec 32 := Scalar.subi v1209 c1_i32_759
  let v1225 : BitVec 32 := Scalar.select v1223 v1224 v1209
  let v1226 : BitVec 32 := Scalar.subi c3_i32_760 v1225
  let v1227 : BitVec 32 := Scalar.muli c4_i32_761 v1226
  let c4_i32_762 : BitVec 32 := 4#32
  let c0_i32_763 : BitVec 32 := 0#32
  let v1228 : BitVec 1 := Scalar.cmpi .eq c4_i32_762 c0_i32_763
  let c1_i32_764 : BitVec 32 := 1#32
  let v1229 : BitVec 32 := Scalar.select v1228 c1_i32_764 c4_i32_762
  let v1230 : BitVec 32 := Scalar.remsi v1208 v1229
  let c0_i32_766 : BitVec 32 := 0#32
  let v1232 : BitVec 1 := Scalar.cmpi .slt v1230 c0_i32_766
  let c0_i32_767 : BitVec 32 := 0#32
  let v1233 : BitVec 1 := Scalar.cmpi .slt v1229 c0_i32_767
  let v1234 : BitVec 1 := Scalar.xori v1232 v1233
  let c0_i32_765 : BitVec 32 := 0#32
  let v1231 : BitVec 1 := Scalar.cmpi .ne v1230 c0_i32_765
  let v1235 : BitVec 1 := Scalar.andi v1234 v1231
  let v1236 : BitVec 32 := Scalar.addi v1230 v1229
  let v1237 : BitVec 32 := Scalar.select v1235 v1236 v1230
  let v1238 : BitVec 32 := Scalar.addi v1227 v1237
  let c0_i32_780 : BitVec 32 := 0#32
  let c0_i32_781 : BitVec 32 := 0#32
  ![v1238.toNat, 0, 0]
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x256 : Shape := ⟨2, ![4096, 256]⟩

abbrev nBuf : Space → Nat
  | .hbm => 1
  | .vmem => 0
  | .smem => 0
  | _ => 0

abbrev bufTy : (tb : Table) → Fin (tcTables nBuf tb) → BufTy
  | .hbm, ⟨0, _⟩ => ⟨S4096x256, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Steps.lean ====
/-
# The kernel body as a straight line of steps

The printed body computes, between its effects, a great deal of index arithmetic in 32-bit words. This module
names the three kinds of step the kernel makes on one output slot (a remote copy of a slot, a wait on a DMA
semaphore, a signal on the barrier) and says that the body is the straight line of those steps.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.Gather

open Cert.KernelIdeal Cert.KernelIdeal.Gen
open Idealize.ShloMosaic
open Idealize.ShloMosaic.TcCoe
open Idealize.SL.Sem

variable {F : FTy → Type} [FloatOps F]

/-- A step of the kernel that returns nothing. -/
abbrev Step (F : FTy → Type) : Type := TpuEff nD τ sig (Elt F) Λ₀ .tc PUnit

abbrev Kern (F : FTy → Type) : Type 1 := Prog (TpuEff nD τ sig (Elt F) Λ₀ .tc) PUnit

/-- The steps of a list one after another, then `rest`. -/
def steps : List (Step F) → Kern F → Kern F
  | [], rest => rest
  | e :: l, rest => .op e fun _ => steps l rest

abbrev outM : Memref sig .tc .vmem S16x256x256 .bf16 := Memref.whole cc0_stg1_0
abbrev inM : Memref sig .tc .vmem S256x256 .bf16 := Memref.whole cc0_stg0_0
theorem outM_whole : outM.IsWhole := Memref.isWhole_whole _

/-- An offset in the output at which one slot fits. -/
abbrev Fits (off : Fin 3 → ℕ) : Prop := ∀ a, off a + S1x256x256.size a ≤ S16x256x256.size a
abbrev Words (off : Fin 3 → ℕ) (h : Fits off) : Prop :=
  (Rect.unit (s := S16x256x256) off S1x256x256.size h).WholeWords (EltTy.packing .bf16)

/-- The part of the output at an offset, one slot large, seen as a 256×256 array. -/
abbrev partM (off : Fin 3 → ℕ) (h : Fits off) : Memref sig .tc .vmem S256x256 .bf16 :=
  (outM.slice (Rect.unit (s := S16x256x256) off S1x256x256.size h) (fun _ => rfl)).squeeze S256x256 squeezes_S1x256x256_S256x256

/-- Copy the part at `off` to the same part of device `n`. -/
abbrev copyTo (n : Dev nD) (off : Fin 3 → ℕ) (h : Fits off) (hw : Words off h) (sS sR : DmaSem sig) : Step F :=
  .enqueueDma (partM off h) (.remote (Dev.tc n) (partM off h) (.dma sS)) (.dma sR)
    ((outM_whole.wordExact_slice rfl _ hw).reshape _ _) ((outM_whole.wordExact_slice rfl _ hw).reshape _ _) ⟨⟨rfl, Or.inl rfl⟩, trivial⟩

/-- Wait on a DMA semaphore for the size of one part. -/
abbrev waitFor (sm : DmaSem sig) (off off' : Fin 3 → ℕ) (h : Fits off) (h' : Fits off') (hw : Words off h) (hw' : Words off' h') : Step F :=
  .waitDma2 sm (partM off h) (partM off' h') ((outM_whole.wordExact_slice rfl _ hw).reshape _ _) ((outM_whole.wordExact_slice rfl _ hw').reshape _ _)

abbrev barS : Sem sig := (SemArray.scalar (sig.barrier 0 rfl) : Sems sig S_).sem

/-- Add one to the barrier of device `n`. -/
abbrev signalTo (n : Dev nD) : Step F := .semSignal (n, .tc) barS (1#32 : BitVec 32).toInt

section Printed

variable (d : Dev nD)

/-- The copies and waits as printed: the device, the offsets and the semaphores are the printed expressions. -/
abbrev copyTo2 (n : ℕ) (hn : n < nD) (sS sR : DmaSem sig) : Step F := copyTo ⟨n, hn⟩ (k0_off2 d) (k0_off2_inb d) (k0_off2_wordsbf16 d) sS sR
abbrev copyTo3 (n : ℕ) (hn : n < nD) (sS sR : DmaSem sig) : Step F := copyTo ⟨n, hn⟩ (k0_off3 d) (k0_off3_inb d) (k0_off3_wordsbf16 d) sS sR
abbrev copyTo4 (n : ℕ) (hn : n < nD) (sS sR : DmaSem sig) : Step F := copyTo ⟨n, hn⟩ (k0_off4 d) (k0_off4_inb d) (k0_off4_wordsbf16 d) sS sR
abbrev waitAt2 (sm : DmaSem sig) (off : Fin 3 → ℕ) (h : Fits off) (hw : Words off h) : Step F :=
  waitFor sm (k0_off2 d) off (k0_off2_inb d) h (k0_off2_wordsbf16 d) hw

def printedSignals : List (Step F) :=
  [signalTo ⟨k0_dev1 d, k0_dev1_lt d⟩, signalTo ⟨k0_dev2 d, k0_dev2_lt d⟩, signalTo ⟨k0_dev3 d, k0_dev3_lt d⟩, signalTo ⟨k0_dev4 d, k0_dev4_lt d⟩,
   signalTo ⟨k0_dev5 d, k0_dev5_lt d⟩, signalTo ⟨k0_dev6 d, k0_dev6_lt d⟩, signalTo ⟨k0_dev7 d, k0_dev7_lt d⟩, signalTo ⟨k0_dev8 d, k0_dev8_lt d⟩]

def printedFirst : List (Step F) :=
  [copyTo2 d (k0_dev9 d) (k0_dev9_lt d) 28 29, copyTo2 d (k0_dev10 d) (k0_dev10_lt d) 2 9, copyTo2 d (k0_dev11 d) (k0_dev11_lt d) 3 10,
   copyTo2 d (k0_dev12 d) (k0_dev12_lt d) 4 11, copyTo2 d (k0_dev13 d) (k0_dev13_lt d) 5 12, copyTo2 d (k0_dev14 d) (k0_dev14_lt d) 6 13,
   copyTo2 d (k0_dev15 d) (k0_dev15_lt d) 7 14, copyTo2 d (k0_dev16 d) (k0_dev16_lt d) 8 15]

def printedSecond : List (Step F) :=
  [copyTo3 d (k0_dev17 d) (k0_dev17_lt d) 16 19, copyTo3 d (k0_dev18 d) (k0_dev18_lt d) 17 20, copyTo3 d (k0_dev19 d) (k0_dev19_lt d) 18 21,
   copyTo3 d (k0_dev20 d) (k0_dev20_lt d) 30 31]

def printedThird : List (Step F) :=
  [copyTo4 d (k0_dev21 d) (k0_dev21_lt d) 22 25, copyTo4 d (k0_dev22 d) (k0_dev22_lt d) 23 26, copyTo4 d (k0_dev23 d) (k0_dev23_lt d) 24 27]

def printedReceives : List (Step F) :=
  [waitAt2 d 9 _ (k0_off5_inb d 0) (k0_off5_wordsbf16 d 0), waitAt2 d 10 _ (k0_off5_inb d 1) (k0_off5_wordsbf16 d 1),
   waitAt2 d 11 _ (k0_off5_inb d 2) (k0_off5_wordsbf16 d 2), waitAt2 d 12 _ (k0_off5_inb d 3) (k0_off5_wordsbf16 d 3),
   waitAt2 d 13 _ (k0_off5_inb d 4) (k0_off5_wordsbf16 d 4), waitAt2 d 14 _ (k0_off5_inb d 5) (k0_off5_wordsbf16 d 5),
   waitAt2 d 15 _ (k0_off5_inb d 6) (k0_off5_wordsbf16 d 6),
   waitAt2 d 19 _ (k0_off6_inb d 0) (k0_off6_wordsbf16 d 0), waitAt2 d 20 _ (k0_off6_inb d 1) (k0_off6_wordsbf16 d 1),
   waitAt2 d 21 _ (k0_off6_inb d 2) (k0_off6_wordsbf16 d 2),
   waitAt2 d 25 _ (k0_off7_inb d 0) (k0_off7_wordsbf16 d 0), waitAt2 d 26 _ (k0_off7_inb d 1) (k0_off7_wordsbf16 d 1),
   waitAt2 d 27 _ (k0_off7_inb d 2) (k0_off7_wordsbf16 d 2)]

abbrev waitSend (sm : DmaSem sig) : Step F := waitAt2 d sm _ (k0_off2_inb d) (k0_off2_wordsbf16 d)

def printedSends : List (Step F) :=
  [waitSend d 28, waitFor 30 _ _ (k0_off3_inb d) (k0_off3_inb d) (k0_off3_wordsbf16 d) (k0_off3_wordsbf16 d),
   waitSend d 2, waitSend d 3, waitSend d 4, waitSend d 5, waitSend d 6, waitSend d 7, waitSend d 8,
   waitSend d 16, waitSend d 22, waitSend d 17, waitSend d 23, waitSend d 18, waitSend d 24]

end Printed

/-- The body, read as a straight line: signals, the barrier wait, the own block stored in the own slot, then copies and waits. -/
def line (d : Dev nD) : Kern F :=
  steps (printedSignals d) <| .op (.semWait barS (8#32 : BitVec 32).toInt) fun _ =>
  .op (.load inM (Rect.unit (s := S256x256) ![0, 0] S256x256.size inb_S256x256_S256x256_0_0).toLoadRect (View.loadsAt_vmem h_S256x256)) fun v =>
  .op (.load outM (Rect.unit (s := S16x256x256) (k0_off1 d) S1x256x256.size (k0_off1_inb d)).toLoadRect (View.loadsAt_vmem h_S1x256x256)) fun _ =>
  .op (.store outM (Rect.unit (s := S16x256x256) (k0_off1 d) S1x256x256.size (k0_off1_inb d)) (k0_pay1 v) Finset.univ
    (View.stores_vmem h_S1x256x256 (outM_whole.storeExact_slice rfl _ (k0_off1_packedbf16 d)) (fun _ => rfl)) (.inl rfl)) fun _ =>
  steps (printedFirst d) <|
  .op (waitAt2 d 29 _ (k0_off2_inb d) (k0_off2_wordsbf16 d)) fun _ => steps (printedSecond d) <|
  .op (waitAt2 d 31 _ (k0_off4_inb d) (k0_off4_wordsbf16 d)) fun _ => steps (printedThird d) <|
  steps (printedReceives d) <| steps (printedSends d) <| .ret ⟨⟩

set_option maxRecDepth 100000 in
theorem body_eq :
    (cc0_body inM (Memref.isWhole_whole _) outM outM_whole cc0_scratch0 cc0_scratch1 cc0_scratch2 cc0_scratch3 cc0_scratch4 cc0_scratch5
      cc0_scratch6 cc0_scratch7 cc0_scratch8 cc0_scratch9 : Kern F) = .op .deviceId fun d => line d := by
  rfl

end Cert.Gather

end
-- ==== Proof.Plan.lean ====
/-
# Who sends which slot to whom

Sixteen devices in four planes of four; planes 0 and 1 are one side, planes 2 and 3 the other. Each device makes
fifteen remote copies, numbered here in the order it makes them:

* copy 0: its own slot to its PARTNER, the device at its place in the mirrored plane of the other side;
* copies 1–7: its own slot to the other seven devices of its side;
* copies 8–10: the partner's slot to the other three devices of its plane;
* copy 11: the partner's slot to its COUSIN, the device at its place in the other plane of its side;
* copies 12–14: the slot the cousin sent (the slot of the cousin's partner) to the other three devices of its plane.

For each copy: whom it goes to, whom it comes from, which slot it carries and on which two semaphores it is counted.
-/
module

public import proofs.«01_k».proof.Proof.Steps

@[expose] public section

noncomputable section

namespace Cert.Gather

open Cert.KernelIdeal Cert.KernelIdeal.Gen
open Idealize.ShloMosaic
open Idealize.ShloMosaic.TcCoe
open Idealize.SL.Sem

variable {F : FTy → Type} [FloatOps F]

/-! ## The map -/

def device (n : ℕ) : Dev nD := ⟨n % 16, Nat.mod_lt _ (by decide)⟩

def partner (c : Dev nD) : Dev nD := device (4 * (3 - c.val / 4) + c.val % 4)
def cousin (c : Dev nD) : Dev nD := device (4 * (c.val / 4 + 1 - 2 * (c.val / 4 % 2)) + c.val % 4)
/-- `t` places on, around the side. -/
def around (t : ℕ) (c : Dev nD) : Dev nD := device (8 * (c.val / 8) + (c.val % 8 + t) % 8)
/-- `u` places on, around the plane. -/
def mate (u : ℕ) (c : Dev nD) : Dev nD := device (4 * (c.val / 4) + (c.val % 4 + u) % 4)

/-- A copy's number. -/
abbrev Copy : Type := Fin 15
/-- A barrier signal's number: 0–6 to the rest of the side, 7 to the partner. -/
abbrev Sig : Type := Fin 8

/-- Whom copy `k` of device `c` goes to. -/
def dest (k : Copy) (c : Dev nD) : Dev nD :=
  if k.val = 0 then partner c else if k.val ≤ 7 then around k.val c else if k.val ≤ 10 then mate (k.val - 7) c
  else if k.val = 11 then cousin c else mate (k.val - 11) c

/-- Whose copy `k` comes to device `c`. -/
def origin (k : Copy) (c : Dev nD) : Dev nD :=
  if k.val = 0 then partner c else if k.val ≤ 7 then around (8 - k.val) c else if k.val ≤ 10 then mate (11 - k.val) c
  else if k.val = 11 then cousin c else mate (15 - k.val) c

/-- The slot that copy `k` of device `c` carries. -/
def carried (k : Copy) (c : Dev nD) : Dev nD :=
  if k.val ≤ 7 then c else if k.val ≤ 11 then partner c else partner (cousin c)

/-- The slot that copy `k` fills at device `c`. -/
def filled (k : Copy) (c : Dev nD) : Dev nD := carried k (origin k c)

/-- Whom signal `σ` of device `c` goes to, and whose it is at `c`. -/
def signalled (σ : Sig) (c : Dev nD) : Dev nD := if σ.val = 7 then partner c else around (σ.val + 1) c
def signaller (σ : Sig) (c : Dev nD) : Dev nD := if σ.val = 7 then partner c else around (7 - σ.val) c

theorem origin_dest : ∀ (k : Copy) (c : Dev nD), origin k (dest k c) = c := by decide +kernel
theorem dest_origin : ∀ (k : Copy) (c : Dev nD), dest k (origin k c) = c := by decide +kernel
theorem signaller_signalled : ∀ (σ : Sig) (c : Dev nD), signaller σ (signalled σ c) = c := by decide +kernel
theorem signalled_signaller : ∀ (σ : Sig) (c : Dev nD), signalled σ (signaller σ c) = c := by decide +kernel

def destEquiv (k : Copy) : Dev nD ≃ Dev nD := ⟨dest k, origin k, origin_dest k, dest_origin k⟩
def signalledEquiv (σ : Sig) : Dev nD ≃ Dev nD := ⟨signalled σ, signaller σ, signaller_signalled σ, signalled_signaller σ⟩

/-- At most one copy fills a slot, none fills the own one, and every other slot is filled. -/
theorem filled_inj : ∀ (c : Dev nD) (k k' : Copy), filled k c = filled k' c → k = k' := by decide +kernel
theorem filled_ne : ∀ (c : Dev nD) (k : Copy), filled k c ≠ c := by decide +kernel
theorem filled_surj : ∀ c s : Dev nD, s = c ∨ ∃ k : Copy, s = filled k c := by decide +kernel

/-- The receiver of each copy of `c` is the sender of exactly one of the signals `c` waits for; -/
theorem signaller_of : ∀ (k : Copy) (c : Dev nD), ∃ σ : Sig, ∀ σ' : Sig, dest k c = signaller σ' c ↔ σ' = σ := by decide +kernel
/-- and the sender of each copy to `d` is the receiver of exactly one of `d`'s signals. -/
theorem signalled_of : ∀ (k : Copy) (d : Dev nD), ∃ σ : Sig, ∀ σ' : Sig, dest k (signalled σ' d) = d ↔ σ' = σ := by decide +kernel

/-! ## The semaphores -/

def dsem (n : ℕ) : DmaSem sig := ⟨n % 32, Nat.mod_lt _ (by decide)⟩

/-- Where copy `k` is counted at its sender, and at its receiver. -/
def sendSem (k : Copy) : DmaSem sig :=
  dsem (if k.val = 0 then 28 else if k.val ≤ 7 then 1 + k.val else if k.val ≤ 10 then 8 + k.val else if k.val = 11 then 30 else 10 + k.val)
def recvSem (k : Copy) : DmaSem sig :=
  dsem (if k.val = 0 then 29 else if k.val ≤ 7 then 8 + k.val else if k.val ≤ 10 then 11 + k.val else if k.val = 11 then 31 else 13 + k.val)

/-- The two together: end 0 is the sender's, end 1 the receiver's. -/
def endSem (b : Fin 2) (k : Copy) : DmaSem sig := if b = 0 then sendSem k else recvSem k

/-- Which copy, and which end of it, a semaphore counts (the staging semaphores 0 and 1 count none). -/
def endOf (s : DmaSem sig) : Fin 2 × Copy :=
  if s.val ≤ 8 then (0, ⟨(s.val - 1) % 15, Nat.mod_lt _ (by decide)⟩) else if s.val ≤ 15 then (1, ⟨(s.val - 8) % 15, Nat.mod_lt _ (by decide)⟩)
  else if s.val ≤ 18 then (0, ⟨(s.val - 8) % 15, Nat.mod_lt _ (by decide)⟩) else if s.val ≤ 21 then (1, ⟨(s.val - 11) % 15, Nat.mod_lt _ (by decide)⟩)
  else if s.val ≤ 24 then (0, ⟨(s.val - 10) % 15, Nat.mod_lt _ (by decide)⟩) else if s.val ≤ 27 then (1, ⟨(s.val - 13) % 15, Nat.mod_lt _ (by decide)⟩)
  else if s.val = 28 then (0, 0) else if s.val = 29 then (1, 0) else if s.val = 30 then (0, 11) else (1, 11)

theorem endOf_endSem : ∀ (b : Fin 2) (k : Copy), endOf (endSem b k) = (b, k) := by decide +kernel
theorem two_le_endSem : ∀ (b : Fin 2) (k : Copy), 2 ≤ (endSem b k).val := by decide +kernel
theorem endSem_inj {b b' : Fin 2} {k k' : Copy} (h : endSem b k = endSem b' k') : b = b' ∧ k = k' := by
  have := congrArg endOf h
  rw [endOf_endSem, endOf_endSem, Prod.mk.injEq] at this
  exact this

/-! ## Slots -/

/-- Where slot `s` of the output lies. -/
def slotOff (s : Dev nD) : Fin 3 → ℕ := ![s.val, 0, 0]
theorem slot_fits : ∀ s : Dev nD, Fits (slotOff s) := by decide +kernel
theorem slot_words : ∀ s : Dev nD, Words (slotOff s) (slot_fits s) := by decide +kernel
theorem slot_packed : ∀ s : Dev nD, (Rect.unit (s := S16x256x256) (slotOff s) S1x256x256.size (slot_fits s)).PackedRows (EltTy.packing .bf16) := by decide +kernel

/-- Slot `s` as a 256×256 array. -/
abbrev slotM (s : Dev nD) : Memref sig .tc .vmem S256x256 .bf16 := partM (slotOff s) (slot_fits s)

/-! ## The steps by number -/

/-- Copy `k` of device `c`. -/
abbrev copyStep (c : Dev nD) (k : Copy) : Step F := copyTo (dest k c) (slotOff (carried k c)) (slot_fits _) (slot_words _) (sendSem k) (recvSem k)
/-- The wait for an end of copy `k`. -/
abbrev waitStep (b : Fin 2) (k : Copy) : Step F := waitFor (endSem b k) (slotOff 0) (slotOff 0) (slot_fits 0) (slot_fits 0) (slot_words 0) (slot_words 0)
abbrev signalStep (c : Dev nD) (σ : Sig) : Step F := signalTo (signalled σ c)

def signals : List Sig := [0, 1, 2, 3, 4, 5, 6, 7]
def firstCopies : List Copy := [0, 1, 2, 3, 4, 5, 6, 7]
def secondCopies : List Copy := [8, 9, 10, 11]
def thirdCopies : List Copy := [12, 13, 14]
/-- The receives and the sends in the order they are waited for at the end. -/
def lateReceives : List Copy := [1, 2, 3, 4, 5, 6, 7, 8, 9, 10, 12, 13, 14]
def allSends : List Copy := [0, 11, 1, 2, 3, 4, 5, 6, 7, 8, 12, 9, 13, 10, 14]

theorem signalTo_congr {n n' : Dev nD} (h : n = n') : (signalTo n : Step F) = signalTo n' := by rw [h]
theorem copyTo_congr {n n' : Dev nD} {off off' : Fin 3 → ℕ} {h : Fits off} {h' : Fits off'} {hw : Words off h} {hw' : Words off' h'}
    {sS sS' sR sR' : DmaSem sig} (e₁ : n = n') (e₂ : off = off') (e₃ : sS = sS') (e₄ : sR = sR') :
    (copyTo n off h hw sS sR : Step F) = copyTo n' off' h' hw' sS' sR' := by
  subst e₁ e₂ e₃ e₄; rfl
theorem cons_congr {α : Type _} {a a' : α} {l l' : List α} (h : a = a') (hl : l = l') : a :: l = a' :: l' := by rw [h, hl]

theorem off3_eq : ∀ d : Dev nD, k0_off3 d = slotOff (partner d) := by decide +kernel
theorem off4_eq : ∀ d : Dev nD, k0_off4 d = slotOff (partner (cousin d)) := by decide +kernel

theorem printedSignals_eq (d : Dev nD) : (printedSignals d : List (Step F)) = signals.map (signalStep d) := by
  unfold printedSignals signals
  simp only [List.map_cons, List.map_nil]
  repeat' refine cons_congr (signalTo_congr ?_) ?_
  all_goals first | rfl | (revert d; decide +kernel)

theorem printedFirst_eq (d : Dev nD) : (printedFirst d : List (Step F)) = firstCopies.map (copyStep d) := by
  unfold printedFirst firstCopies
  simp only [List.map_cons, List.map_nil]
  repeat' refine cons_congr (copyTo_congr ?_ (k0_off2_eq d) (by decide) (by decide)) ?_
  all_goals first | rfl | (revert d; decide +kernel)

theorem printedSecond_eq (d : Dev nD) : (printedSecond d : List (Step F)) = secondCopies.map (copyStep d) := by
  unfold printedSecond secondCopies
  simp only [List.map_cons, List.map_nil]
  repeat' refine cons_congr (copyTo_congr ?_ (off3_eq d) (by decide) (by decide)) ?_
  all_goals first | rfl | (revert d; decide +kernel)

theorem printedThird_eq (d : Dev nD) : (printedThird d : List (Step F)) = thirdCopies.map (copyStep d) := by
  unfold printedThird thirdCopies
  simp only [List.map_cons, List.map_nil]
  repeat' refine cons_congr (copyTo_congr ?_ (off4_eq d) (by decide) (by decide)) ?_
  all_goals first | rfl | (revert d; decide +kernel)

theorem printedReceives_eq (d : Dev nD) : (printedReceives d : List (Step F)) = lateReceives.map (waitStep 1) := rfl
theorem printedSends_eq (d : Dev nD) : (printedSends d : List (Step F)) = allSends.map (waitStep 0) := rfl

/-- Load the input block, load the slot at `off` (its value is not used), store the block there, go on. -/
def place (off : Fin 3 → ℕ) (h : Fits off) (hp : (Rect.unit (s := S16x256x256) off S1x256x256.size h).PackedRows (EltTy.packing .bf16)) (rest : Kern F) : Kern F :=
  .op (.load inM (Rect.unit (s := S256x256) ![0, 0] S256x256.size inb_S256x256_S256x256_0_0).toLoadRect (View.loadsAt_vmem h_S256x256)) fun v =>
  .op (.load outM (Rect.unit (s := S16x256x256) off S1x256x256.size h).toLoadRect (View.loadsAt_vmem h_S1x256x256)) fun _ =>
  .op (.store outM (Rect.unit (s := S16x256x256) off S1x256x256.size h) (k0_pay1 v) Finset.univ
    (View.stores_vmem h_S1x256x256 (outM_whole.storeExact_slice rfl _ hp) (fun _ => rfl)) (.inl rfl)) fun _ => rest

theorem place_congr {off off' : Fin 3 → ℕ} {h : Fits off} {h' : Fits off'} {hp hp'} (e : off = off') (rest : Kern F) :
    place off h hp rest = place off' h' hp' rest := by subst e; rfl

/-- The line by number. -/
def plan (c : Dev nD) : Kern F :=
  steps (signals.map (signalStep c)) <| .op (.semWait barS 8) fun _ =>
  place (slotOff c) (slot_fits c) (slot_packed c) <|
  steps (firstCopies.map (copyStep c)) <|
  .op (waitStep 1 0) fun _ => steps (secondCopies.map (copyStep c)) <|
  .op (waitStep 1 11) fun _ => steps (thirdCopies.map (copyStep c)) <|
  steps (lateReceives.map (waitStep 1)) <| steps (allSends.map (waitStep 0)) <| .ret ⟨⟩

theorem line_eq (c : Dev nD) : (line c : Kern F) = plan c := by
  unfold plan
  rw [← printedSignals_eq, ← printedFirst_eq, ← printedSecond_eq, ← printedThird_eq, ← printedReceives_eq c, ← printedSends_eq c,
    ← place_congr (h := k0_off1_inb c) (hp := k0_off1_packedbf16 c) (show k0_off1 c = slotOff c from k0_off1_eq c)]
  rfl

theorem body_plan :
    (cc0_body inM (Memref.isWhole_whole _) outM outM_whole cc0_scratch0 cc0_scratch1 cc0_scratch2 cc0_scratch3 cc0_scratch4 cc0_scratch5
      cc0_scratch6 cc0_scratch7 cc0_scratch8 cc0_scratch9 : Kern F) = .op .deviceId fun d => plan d :=
  body_eq.trans (congrArg _ (funext line_eq))

end Cert.Gather

end
-- ==== Proof.Slots.lean ====
/-
# The slots of the output

The sixteen slots cut the output into disjoint parts. This module names the gathered contents (slot `s` holds device
`s`'s block) and says that storing a device's own block in its own slot, and a copy of a slot of the gathered contents
landing in the same slot elsewhere, both leave the gathered contents there.
-/
module

public import proofs.«01_k».proof.Proof.Plan
public import Idealize.ShloMosaic.Lib.Pipeline.Launch
public import Idealize.ShloMosaic.Lib.Pipeline.Value
public import Idealize.ShloMosaic.Lib.Exec.Geometry
public import Idealize.ShloMosaic.Lib.Ring
public import Idealize.ShloMosaic.Lib.Transfers
public import Idealize.ShloMosaic.Lib.Tactic

@[expose] public section

noncomputable section

namespace Cert.Gather

open Cert.KernelIdeal Cert.KernelIdeal.Gen
open Idealize.ShloMosaic
open Idealize.ShloMosaic.TcCoe
open Idealize.SL Idealize.SL.RA Idealize.SL.BI Idealize.SL.Sem
open scoped Idealize.SL.BI

variable {F : FTy → Type} [FloatOps F]

/-- One input block for each device. -/
abbrev Blocks (F : FTy → Type) : Type := Dev nD → S256x256.Idx → Elt F .bf16

/-- The gathered contents: slot `s` is device `s`'s block. -/
def gathered (x : Blocks F) : S16x256x256.Idx → Elt F .bf16 := fun i => x (device (i 0).val) (fun a => i a.succ)

/-- The rectangle of slot `s`, whose elements the slot's view covers. -/
abbrev slotR (s : Dev nD) : Rect S16x256x256 := Rect.unit (s := S16x256x256) (slotOff s) S1x256x256.size (slot_fits s)

abbrev slotSet (s : Dev nD) : Finset S16x256x256.Idx := (slotM s).view.set

theorem slotSet_eq (s : Dev nD) : slotSet s = (slotR s).set := by
  have h := Memref.set_view_squeeze (outM.slice (slotR s) (fun _ => rfl)) squeezes_S1x256x256_S256x256
  exact h.trans (View.set_slice_whole cc0_stg1_0 (slotR s))

theorem mem_slot {s : Dev nD} {i : S16x256x256.Idx} : i ∈ slotSet s ↔ (i 0).val = s.val := by
  rw [slotSet_eq, Rect.mem_set_unit]
  constructor
  · intro h
    have h0 := h 0
    have e1 : slotOff s 0 = s.val := rfl
    have e2 : S1x256x256.size 0 = 1 := rfl
    omega
  · intro h a
    match a with
    | ⟨0, _⟩ => exact ⟨by show s.val ≤ (i 0).val; omega, by show (i 0).val < s.val + 1; omega⟩
    | ⟨1, _⟩ => exact ⟨Nat.zero_le _, by have := (i 1).isLt; show (i 1).val < 0 + 256; have e : S16x256x256.size 1 = 256 := rfl; omega⟩
    | ⟨2, _⟩ => exact ⟨Nat.zero_le _, by have := (i 2).isLt; show (i 2).val < 0 + 256; have e : S16x256x256.size 2 = 256 := rfl; omega⟩

theorem slot_disjoint (s s' : Dev nD) (h : s ≠ s') : Disjoint (slotSet s) (slotSet s') :=
  Finset.disjoint_left.mpr fun _ hi hi' => h (Fin.ext ((mem_slot.mp hi).symm.trans (mem_slot.mp hi')))

theorem slot_of (i : S16x256x256.Idx) : ∃ s : Dev nD, s ∈ Finset.univ ∧ i ∈ slotSet s :=
  ⟨⟨(i 0).val, (i 0).isLt⟩, Finset.mem_univ _, mem_slot.mpr rfl⟩

/-- A copy of the gathered slot lands as the gathered slot. -/
theorem landed_eq (s : Dev nD) (g f : (slotM s).view.ty.Contents (Elt F)) :
    ∀ i ∈ slotSet s, (slotM s).view.write (Elt F) f ((slotM s).view.read (Elt F) g) Finset.univ i = g i := fun i hi => by
  rw [View.write_read_eq_piecewise, View.setOn_univ]
  exact Finset.piecewise_eq_of_mem _ _ _ hi

theorem stored_apply (v : S256x256.Idx → Elt F .bf16) (j : S1x256x256.Idx) : k0_pay1 v j = v (fun a => j a.succ) := by
  unfold k0_pay1
  refine (shapeCast_addUnit_apply (n := 2) (d := ![256, 256]) _ _ j).trans ?_
  rw [shapeCast_self]

/-- The own block stored in the own slot is the gathered slot. -/
theorem stored_eq (x : Blocks F) (c : Dev nD) (f : (outM.access (slotR c)).ty.Contents (Elt F)) :
    ∀ i ∈ slotSet c, (outM.access (slotR c)).write (Elt F) f (k0_pay1 (x c)) Finset.univ i = gathered x i := fun i hi => by
  have hi' : i ∈ (outM.access (slotR c)).set := by
    rw [show (outM.access (slotR c)).set = (slotR c).set from View.set_slice_whole cc0_stg1_0 (slotR c), ← slotSet_eq]; exact hi
  obtain ⟨j, -, rfl⟩ := Finset.mem_map.mp hi'
  rw [View.write_emb_of_mem _ _ (Finset.mem_univ j)]
  refine (stored_apply (x c) j).trans ?_
  have e := mem_slot.mp hi
  unfold gathered
  rw [show device ((outM.access (slotR c)).emb j 0).val = c from Fin.ext (by rw [e]; exact Nat.mod_eq_of_lt c.isLt)]
  refine congrArg (x c) (funext fun a => Fin.ext ?_)
  match a with
  | ⟨0, _⟩ => show (j 1).val = 0 + 1 * (j 1).val; omega
  | ⟨1, _⟩ => show (j 2).val = 0 + 1 * (j 2).val; omega

/-! ## Shares

A slot goes out in several copies at once, each reading a share of it. -/

/-- The copies that carry the same slot as copy `k`. -/
def together (k : Copy) : Finset Copy :=
  Finset.univ.filter fun k' => (k'.val ≤ 7 ↔ k.val ≤ 7) ∧ (k'.val ≤ 11 ↔ k.val ≤ 11)

/-- The share of its slot that copy `k` reads. -/
def readShare (k : Copy) : PosShare TreeShare := Transfers.dealOf fullShare (together k) k

end Cert.Gather

end
-- ==== Proof.Schedule.lean ====
/-
# The protocol

Every semaphore of the kernel counts one thing, once: a device's barrier counts its eight signals, and for each of its
fifteen copies one semaphore at the sender counts the copy's departure and one at the receiver counts its arrival. This
module says what comes with each count.

* A device's signal brings to whoever it signals the slots of its own output that the signalled device will fill: the
  signalled device, having waited for all eight, may write every slot it writes.
* A departure gives the sender back the share of the slot it read.
* An arrival gives the receiver the slot filled, holding what the gathered contents hold there.

Each device starts out owing its eight signals and its fifteen arrivals. Waits go up in level: the barrier is at 1,
an arrival at 2, 3 or 4 according to which of the three groups of copies it belongs to.
-/
module

public import proofs.«01_k».proof.Proof.Slots
public import Idealize.ShloMosaic.Lib.Pipeline.Kit
public import Idealize.ShloMosaic.Lib.Pipeline.BigSepL
public import Idealize.ShloMosaic.Lib.Rounds
public import Idealize.ShloMosaic.Harness.Basic

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU : Type := UR sig nD τ × URounds (GSem nD τ sig) Sig

local notation "𝕄" => MT nD τ sig Unit (Elt F) ℕ UU ℕ

abbrev EP : Emb (UR sig nD τ) (MT nD τ sig Unit (Elt F) ℕ UU ℕ) := embL
abbrev ER : Emb (URounds (GSem nD τ sig) Sig) (MT nD τ sig Unit (Elt F) ℕ UU ℕ) := embR

/-! ## Cells and slots held -/

abbrev barCell (c : Dev nD) : GSem nD τ sig := ((c : Thread nD τ), .reg barS)
/-- Device `c`'s semaphore for an end of copy `k`. -/
abbrev dcell (c : Dev nD) (b : Fin 2) (k : Copy) : GSem nD τ sig := ((c : Thread nD τ), .dma (endSem b k))

/-- What one slot counts for on a semaphore. -/
abbrev N : ℕ := (slotM 0).view.dmaCredit
theorem N_pos : 0 < N := View.dmaCredit_pos _ (by decide)

/-- Slot `s` of device `c`'s output, held at share `q` with contents `f`. -/
abbrev slotPts (c s : Dev nD) (q : PosShare TreeShare) (f : Buf (Elt F) ((slotM s).view.loc (c : Thread nD τ))) : sProp 𝕄 :=
  (slotM s).view.loc (c : Thread nD τ) ↦[(slotM s).view.set]{q} f

/-- The whole output of device `c`. -/
abbrev outPts (c : Dev nD) (f : Buf (Elt F) ((c : Thread nD τ).loc cc0_stg1_0)) : sProp 𝕄 := ((c : Thread nD τ).loc cc0_stg1_0) ↦{fullShare} f

theorem outPts_eq (c : Dev nD) (f : Buf (Elt F) ((c : Thread nD τ).loc cc0_stg1_0)) :
    (outPts c f : sProp 𝕄) = bigSep Finset.univ fun s => slotPts c s fullShare f :=
  Ring.pointsTo_blocks (ℓ := (c : Thread nD τ).loc cc0_stg1_0) slotSet slot_disjoint
    (Finset.eq_univ_iff_forall.mpr fun i => Finset.mem_biUnion.mpr (slot_of i)) f

/-- The own slot and the fifteen slots filled. -/
theorem bigSep_slots (c : Dev nD) (Φ : Dev nD → sProp 𝕄) :
    bigSep Finset.univ Φ = iprop(Φ c ∗ bigSep Finset.univ fun k : Copy => Φ (filled k c)) := by
  rw [bigSep_univ_at Φ c]
  congr 1
  rw [show Finset.univ.erase c = Finset.univ.image (fun k : Copy => filled k c) from by
    ext s
    rw [Finset.mem_erase, Finset.mem_image]
    constructor
    · intro h
      obtain h' | ⟨k, h'⟩ := filled_surj c s
      · exact absurd h' h.1
      · exact ⟨k, Finset.mem_univ _, h'.symm⟩
    · rintro ⟨k, -, rfl⟩
      exact ⟨filled_ne c k, Finset.mem_univ _⟩]
  exact bigSep_image_of_injOn (fun k _ k' _ h => filled_inj c k k' h) Φ

theorem outPts_slots (c : Dev nD) (f : Buf (Elt F) ((c : Thread nD τ).loc cc0_stg1_0)) :
    (outPts c f : sProp 𝕄) = iprop(slotPts c c fullShare f ∗ bigSep Finset.univ fun k : Copy => slotPts c (filled k c) fullShare f) := by
  rw [outPts_eq, bigSep_slots c fun s => slotPts c s fullShare f]

/-- A family that is empty but at one member is that member. -/
theorem bigSep_only {ι : Type} [Fintype ι] [DecidableEq ι] (i : ι) (Φ : ι → sProp 𝕄) :
    (bigSep Finset.univ fun j => if j = i then Φ j else iprop(emp)) = Φ i := by
  have e := bigSep_filter Finset.univ (fun j => j = i) Φ
  rw [Finset.filter_eq', if_pos (Finset.mem_univ _), bigSep_singleton] at e
  exact e.symm

/-! ## What is paid -/

variable (x : Blocks F)

/-- What copy `k` of device `c` needs of its receiver: the slot to fill, and that the arrival is not yet counted. -/
def room (c : Dev nD) (k : Copy) : sProp 𝕄 :=
  iprop((∃ f, slotPts (dest k c) (carried k c) fullShare f) ∗ reached ER (dcell (dest k c) 1 k) 0)

/-- Signal `σ` to device `c` brings the room for the copies that go to whoever sends it. -/
def barPay (c : Dev nD) (σ : Sig) : sProp 𝕄 :=
  bigSep Finset.univ fun k : Copy => if dest k c = signaller σ c then room c k else iprop(emp)

def sendPay (c : Dev nD) (k : Copy) : sProp 𝕄 := slotPts c (carried k c) (readShare k) (gathered x)
def recvPay (c : Dev nD) (k : Copy) : sProp 𝕄 := slotPts c (filled k c) fullShare (gathered x)

/-- All eight signals to `c` together bring the room for all fifteen copies of `c`; -/
theorem barPay_all (c : Dev nD) :
    (bigSep Finset.univ fun σ : Sig => barPay c σ : sProp 𝕄) = bigSep Finset.univ fun k : Copy => room c k := by
  unfold barPay
  rw [bigSep_univ_comm]
  refine bigSep_congr fun k _ => ?_
  obtain ⟨σ, h⟩ := signaller_of k c
  simp only [h]
  exact bigSep_only σ fun _ => room c k

/-- and the eight signals of `d` take together the room it has for the fifteen copies that come to it. -/
theorem barPay_paid (d : Dev nD) :
    (bigSep Finset.univ fun σ : Sig => barPay (signalled σ d) σ : sProp 𝕄) = bigSep Finset.univ fun k : Copy => room (origin k d) k := by
  unfold barPay
  rw [bigSep_univ_comm]
  refine bigSep_congr fun k _ => ?_
  obtain ⟨σ, h⟩ := signalled_of k d
  have e : signalled σ d = origin k d := by rw [← origin_dest k (signalled σ d), (h σ).mpr rfl]
  simp only [signaller_signalled, h]
  exact (bigSep_only σ fun σ' => room (signalled σ' d) k).trans (by rw [e])

theorem room_origin (d : Dev nD) (k : Copy) :
    (room (origin k d) k : sProp 𝕄) = iprop((∃ f, slotPts d (filled k d) fullShare f) ∗ reached ER (dcell d 1 k) 0) := by
  unfold room filled; rw [dest_origin]

/-! ## The schedule -/

def gatherRd : Rounds.Schedule (GSem nD τ sig) Sig 𝕄 where
  duties g r := if r = 0 ∧ g.1.2 = .tc then (match g.2 with | .reg _ => Finset.univ | .dma s => if 2 ≤ s.val then {0} else ∅) else ∅
  unitless _ := False
  amount g _ _ := match g.2 with | .reg _ => 1 | .dma _ => N
  payload g _ σ := match g.2 with
    | .reg _ => barPay g.1.1 σ
    | .dma s => if (endOf s).1 = 0 then sendPay x g.1.1 (endOf s).2 else recvPay x g.1.1 (endOf s).2
  amount_pos g _ _ _ := by
    cases g.2 with
    | reg _ => exact Nat.one_pos
    | dma _ => exact N_pos

instance room_storable (c : Dev nD) (k : Copy) : BI.Storable (upEmb : UEmb _ 𝕄) (room c k) := by
  unfold room; infer_instance
instance barPay_storable (c : Dev nD) (σ : Sig) : BI.Storable (upEmb : UEmb _ 𝕄) (barPay c σ) := by
  unfold barPay
  have (k : Copy) : BI.Storable (upEmb : UEmb _ 𝕄) (if dest k c = signaller σ c then room c k else iprop(emp)) := by
    split <;> infer_instance
  infer_instance
instance gatherRd_storable (g : GSem nD τ sig) (r : ℕ) (σ : Sig) : BI.Storable (upEmb : UEmb _ 𝕄) ((gatherRd x).payload g r σ) := by
  dsimp only [gatherRd]
  unfold sendPay recvPay
  cases g.2 with
  | reg _ => dsimp only; infer_instance
  | dma s => dsimp only; split <;> infer_instance

theorem duties_bar (c : Dev nD) : (gatherRd x).duties (barCell c) 0 = Finset.univ := by dsimp only [gatherRd]; exact if_pos ⟨rfl, rfl⟩
theorem duties_copy (c : Dev nD) (b : Fin 2) (k : Copy) : (gatherRd x).duties (dcell c b k) 0 = {0} := by
  dsimp only [gatherRd]; rw [if_pos ⟨rfl, rfl⟩, if_pos (two_le_endSem b k)]
theorem duties_later (g : GSem nD τ sig) : ∀ r, 1 ≤ r → (gatherRd x).duties g r = ∅ :=
  fun r hr => by dsimp only [gatherRd]; rw [if_neg (fun h => by omega)]

theorem amount_bar (c : Dev nD) (r : ℕ) (σ : Sig) : (gatherRd x).amount (barCell c) r σ = 1 := rfl
theorem amount_copy (c : Dev nD) (b : Fin 2) (k : Copy) (r : ℕ) (σ : Sig) : (gatherRd x).amount (dcell c b k) r σ = N := rfl

theorem expect_bar (c : Dev nD) : (gatherRd x).expect (barCell c) 0 = 8 := by
  unfold Schedule.expect Schedule.amountOf
  rw [duties_bar, Finset.sum_congr rfl fun σ _ => amount_bar x c 0 σ]; rfl
theorem expect_copy (c : Dev nD) (b : Fin 2) (k : Copy) : (gatherRd x).expect (dcell c b k) 0 = N := by
  unfold Schedule.expect Schedule.amountOf; rw [duties_copy, Finset.sum_singleton, amount_copy]

theorem payload_bar (c : Dev nD) (r : ℕ) (σ : Sig) : (gatherRd x).payload (barCell c) r σ = barPay c σ := rfl
theorem payload_send (c : Dev nD) (k : Copy) (r : ℕ) (σ : Sig) : (gatherRd x).payload (dcell c 0 k) r σ = sendPay x c k := by
  dsimp only [gatherRd]; rw [endOf_endSem]; rfl
theorem payload_recv (c : Dev nD) (k : Copy) (r : ℕ) (σ : Sig) : (gatherRd x).payload (dcell c 1 k) r σ = recvPay x c k := by
  dsimp only [gatherRd]; rw [endOf_endSem]; rfl

/-- What an end of copy `k` brings. -/
def endPay (c : Dev nD) (b : Fin 2) (k : Copy) : sProp 𝕄 := if b = 0 then sendPay x c k else recvPay x c k

theorem rest_bar (c : Dev nD) :
    bigSep ((gatherRd x).duties (barCell c) 0 \ ∅) (fun σ => (gatherRd x).payload (barCell c) 0 σ) = bigSep Finset.univ fun k : Copy => room c k := by
  rw [Finset.sdiff_empty, duties_bar]; exact barPay_all c
theorem rest_copy (c : Dev nD) (b : Fin 2) (k : Copy) :
    bigSep ((gatherRd x).duties (dcell c b k) 0 \ ∅) (fun σ => (gatherRd x).payload (dcell c b k) 0 σ) = endPay x c b k := by
  rw [Finset.sdiff_empty, duties_copy, bigSep_singleton]
  unfold endPay
  match b with
  | 0 => exact payload_send x c k 0 0
  | 1 => exact payload_recv x c k 0 0

/-! ## What each device owes -/

def owedSignals (c : Dev nD) (l : List Sig) : CellTallies nD τ sig Unit := (l.map fun σ => tallyAt (barCell (signalled σ c)) () 1).sum
def owedCopies (c : Dev nD) (l : List Copy) : CellTallies nD τ sig Unit := (l.map fun k => tallyAt (dcell (dest k c) 1 k) () N).sum

/-- After the signals; at the start. -/
def O₁ (c : Dev nD) : CellTallies nD τ sig Unit := owedCopies c firstCopies + (owedCopies c secondCopies + owedCopies c thirdCopies)
def O₀ (c : Dev nD) : CellTallies nD τ sig Unit := owedSignals c signals + O₁ c

def L (g : GSem nD τ sig) : Finset Unit := if g.1.2 = .tc then {()} else ∅
def lv (g : GSem nD τ sig) (_ : Unit) : ℕ := match g.2 with
  | .reg _ => 1
  | .dma s => if s.val < 2 ∨ (endOf s).1 = 0 then 0 else if (endOf s).2.val ≤ 7 then 2 else if (endOf s).2.val ≤ 11 then 3 else 4

theorem L_of_ne (g : GSem nD τ sig) (h : g.1.2 ≠ .tc) : L g = ∅ := if_neg h
theorem L_tc (c : Dev nD) (sm : SemLoc sig) : L ((c : Thread nD τ), sm) = {()} := if_pos rfl

theorem lv_arrival (c : Dev nD) (k : Copy) : lv (dcell c 1 k) () = if k.val ≤ 7 then 2 else if k.val ≤ 11 then 3 else 4 := by
  have h := two_le_endSem 1 k
  dsimp only [lv]
  rw [if_neg (by rw [endOf_endSem]; intro h'; obtain h' | h' := h'; · omega
                 exact absurd (show (1 : Fin 2) = 0 from h') (by decide)), endOf_endSem]

/-- Everything owed is on the devices' own cells, at levels above `n`. -/
def Above (n : ℕ) (O : CellTallies nD τ sig Unit) : Prop := ∀ (g : GSem nD τ sig) (u : Unit), 0 < O g u → u ∈ L g ∧ n < lv g u

theorem Above.zero (n : ℕ) : Above n 0 := fun _ _ h => absurd h (Nat.lt_irrefl 0)
theorem Above.add {n : ℕ} {O O' : CellTallies nD τ sig Unit} (h : Above n O) (h' : Above n O') : Above n (O + O') := fun g u hg => by
  have hg' : 0 < O g u + O' g u := hg
  rcases Nat.eq_zero_or_pos (O g u) with e | e
  · exact h' g u (by omega)
  · exact h g u e
theorem Above.at {n : ℕ} (c : Dev nD) (sm : SemLoc sig) (k : ℕ) (h : n < lv ((c : Thread nD τ), sm) ()) :
    Above n (tallyAt ((c : Thread nD τ), sm) () k) := fun g u hg => by
  rw [tallyAt_apply] at hg
  by_cases e : g = ((c : Thread nD τ), sm) ∧ u = ()
  · rw [e.1, L_tc]; exact ⟨Finset.mem_singleton_self _, h⟩
  · rw [if_neg e] at hg; exact absurd hg (Nat.lt_irrefl 0)
theorem Above.list {n : ℕ} {ι : Type} (f : ι → CellTallies nD τ sig Unit) (l : List ι) (h : ∀ i ∈ l, Above n (f i)) : Above n (l.map f).sum := by
  induction l with
  | nil => exact Above.zero n
  | cons i l ih =>
    rw [List.map_cons, List.sum_cons]
    exact (h i (List.mem_cons_self ..)).add (ih fun j hj => h j (List.mem_cons_of_mem _ hj))

theorem above_copies {n : ℕ} (c : Dev nD) (l : List Copy) (h : ∀ k ∈ l, n < if k.val ≤ 7 then 2 else if k.val ≤ 11 then 3 else 4) :
    Above n (owedCopies c l) :=
  Above.list _ l fun k hk => Above.at _ _ _ (by rw [lv_arrival]; exact h k hk)
theorem above_signals (c : Dev nD) (l : List Sig) : Above 0 (owedSignals c l) :=
  Above.list _ l fun _ _ => Above.at _ _ _ Nat.one_pos

theorem above_third (c : Dev nD) : Above 3 (owedCopies c thirdCopies) := above_copies c _ (by decide)
theorem above_second (c : Dev nD) : Above 2 (owedCopies c secondCopies + owedCopies c thirdCopies) :=
  (above_copies c _ (by decide)).add (above_copies c _ (by decide))
theorem above_first (c : Dev nD) : Above 1 (O₁ c) :=
  (above_copies c _ (by decide)).add ((above_copies c _ (by decide)).add (above_copies c _ (by decide)))
theorem above_all (c : Dev nD) : Above 0 (O₀ c) :=
  (above_signals c _).add ((above_copies c _ (by decide)).add ((above_copies c _ (by decide)).add (above_copies c _ (by decide))))

/-- A wait on a cell at level at most `n` is allowed while everything owed is above `n`. -/
theorem mayWait (n : ℕ) {c : Dev nD} {sm : SemLoc sig} {O : CellTallies nD τ sig Unit} (hw : lv ((c : Thread nD τ), sm) () ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact hw) (fun g u hg => (hO g u hg).2)

theorem lv_bar (c : Dev nD) : lv (barCell c) () = 1 := rfl

theorem mayWait_bar (c : Dev nD) : (levAts L lv : sProp 𝕄) ⊢ MayWait (c : Thread nD τ) (.reg barS) () (O₁ c) :=
  mayWait 1 (lv_bar c).le (above_first c)
/-- The waits for copies 0 and 11 come before the copies that forward what they brought. -/
theorem mayWait_first (c : Dev nD) :
    (levAts L lv : sProp 𝕄) ⊢ MayWait (c : Thread nD τ) (.dma (endSem 1 0)) () (owedCopies c secondCopies + owedCopies c thirdCopies) :=
  mayWait 2 (lv_arrival c 0).le (above_second c)
theorem mayWait_second (c : Dev nD) :
    (levAts L lv : sProp 𝕄) ⊢ MayWait (c : Thread nD τ) (.dma (endSem 1 11)) () (owedCopies c thirdCopies) :=
  mayWait 3 (lv_arrival c 11).le (above_third c)

end Cert.Gather

end
-- ==== Proof.Run.lean ====
/-
# The body runs

Each kind of step has one lemma; a list of steps of one kind runs by one induction over the list (`run_each`), whatever
its length. The body is then seven lists and three single steps.
-/
module

public import proofs.«01_k».proof.Proof.Schedule

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The program `p` on device `c` runs to the postcondition `Q`. -/
abbrev Runs (c : Dev nD) (p : Kern F) (Q : PUnit → sProp 𝕄) : sProp 𝕄 :=
  wp frame (wpE (defs₀ (F := F)) 𝒱₀ (c : Thread nD τ) none) Set.univ p Q

variable (x : Blocks F)

/-! ## The records: every cell, and that no count has begun on any barrier -/

def barCells : Finset (GSem nD τ sig) := Finset.univ.image barCell
def copyCells : Finset (GSem nD τ sig) := Finset.univ.image fun p : Dev nD × Fin 2 × Copy => dcell p.1 p.2.1 p.2.2

theorem mem_barCells (c : Dev nD) : barCell c ∈ barCells := Finset.mem_image_of_mem _ (Finset.mem_univ _)
theorem mem_copyCells (c : Dev nD) (b : Fin 2) (k : Copy) : dcell c b k ∈ copyCells :=
  Finset.mem_image.mpr ⟨(c, b, k), Finset.mem_univ _, rfl⟩

def records (κ : GSem nD τ sig → ℕ) : sProp 𝕄 :=
  iprop(bigSep (barCells ∪ copyCells) (fun g => cellInv ER (gatherRd x) (κ g) g) ∗ bigSep barCells (fun g => reached ER g 0) ∗ levAts L lv)

instance records_persistent (κ : GSem nD τ sig → ℕ) : BI.Persistent (records x κ) := by unfold records; infer_instance

theorem records_cell (κ : GSem nD τ sig → ℕ) {g : GSem nD τ sig} (h : g ∈ barCells ∪ copyCells) :
    (records x κ : sProp 𝕄) ⊢ cellInv ER (gatherRd x) (κ g) g := by
  have h' : (bigSep (barCells ∪ copyCells) (fun g => cellInv ER (gatherRd x) (κ g) g) : sProp 𝕄) ⊢ cellInv ER (gatherRd x) (κ g) g := bigSep_elim h
  unfold records
  iintro ⟨#Hi, -, -⟩
  iapply h'; iexact Hi
theorem records_bar (κ : GSem nD τ sig → ℕ) (c : Dev nD) :
    (records x κ : sProp 𝕄) ⊢ cellInv ER (gatherRd x) (κ (barCell c)) (barCell c) :=
  records_cell x κ (Finset.mem_union_left _ (mem_barCells c))
theorem records_copy (κ : GSem nD τ sig → ℕ) (c : Dev nD) (b : Fin 2) (k : Copy) :
    (records x κ : sProp 𝕄) ⊢ cellInv ER (gatherRd x) (κ (dcell c b k)) (dcell c b k) :=
  records_cell x κ (Finset.mem_union_right _ (mem_copyCells c b k))
theorem records_reached (κ : GSem nD τ sig → ℕ) (c : Dev nD) : (records x κ : sProp 𝕄) ⊢ reached ER (barCell c) 0 := by
  have h' : (bigSep barCells (fun g => reached ER g 0) : sProp 𝕄) ⊢ reached ER (barCell c) 0 := bigSep_elim (mem_barCells c)
  unfold records
  iintro ⟨-, #Hr, -⟩
  iapply h'; iexact Hr
theorem records_levels (κ : GSem nD τ sig → ℕ) : (records x κ : sProp 𝕄) ⊢ levAts L lv := by
  unfold records
  iintro ⟨-, -, #H⟩
  iexact H

/-! ## Lists of steps -/

/-- Owing what a list of steps pays, and `O` besides. -/
def owing (c : Dev nD) {ι : Type} (pays : ι → CellTallies nD τ sig Unit) (l : List ι) (O : CellTallies nD τ sig Unit) : sProp 𝕄 :=
  iprop(∃ W, owes (c : Thread nD τ) ((l.map pays).sum + O) W)

theorem owing_cons {ι : Type} (pays : ι → CellTallies nD τ sig Unit) (a : ι) (l : List ι) (O : CellTallies nD τ sig Unit) :
    ((a :: l).map pays).sum + O = ((l.map pays).sum + O) + pays a := by
  rw [List.map_cons, List.sum_cons, add_assoc, add_comm]

/-- If a step of each kind runs from `In`, paying what it pays and leaving `Out`, then a list of them runs. -/
theorem run_each {ι : Type} (c : Dev nD) (R : sProp 𝕄) [BI.Persistent R] (e : ι → Step F) (pays : ι → CellTallies nD τ sig Unit)
    (O : CellTallies nD τ sig Unit) (In Out : ι → sProp 𝕄) (Q : PUnit → sProp 𝕄)
    (hstep : ∀ (a : ι) (l : List ι) (rest : Kern F), iprop(R ∗ In a ∗ owing c pays (a :: l) O)
      ⊢ iprop(((Out a ∗ owing c pays l O) -∗ Runs c rest Q) -∗ Runs c (.op (e a) fun _ => rest) Q)) (rest : Kern F) :
    ∀ l : List ι, iprop(R ∗ bigSepL l In ∗ owing c pays l O) ⊢ iprop(((bigSepL l Out ∗ owing c pays [] O) -∗ Runs c rest Q) -∗ Runs c (steps (l.map e) rest) Q)
  | [] => by
    iintro ⟨-, -, HO⟩ Hk
    iapply Hk
    isplitr; · iempintro
    iexact HO
  | a :: l => by
    rw [bigSepL_cons', bigSepL_cons']
    iintro ⟨#HR, ⟨Ha, Hl⟩, HO⟩ Hk
    iapply (hstep a l (steps (l.map e) rest)) $$ [Ha HO]
    · isplitr; · iexact HR
      isplitl [Ha]; · iexact Ha
      iexact HO
    iintro ⟨Ho, HO⟩
    iapply (run_each c R e pays O In Out Q hstep rest l) $$ [Hl HO]
    · isplitr; · iexact HR
      isplitl [Hl]; · iexact Hl
      iexact HO
    iintro ⟨Hol, HO⟩
    iapply Hk
    isplitr [HO]
    · isplitl [Ho]; · iexact Ho
      iexact Hol
    iexact HO

/-! ## One step of each kind -/

/-- What a signal takes. -/
def signalIn (c : Dev nD) (σ : Sig) : sProp 𝕄 := iprop(dutyTok ER (barCell (signalled σ c)) 0 σ ∗ barPay (signalled σ c) σ)

theorem signal_step (κ : GSem nD τ sig → ℕ) (c : Dev nD) (O : CellTallies nD τ sig Unit) (Q : PUnit → sProp 𝕄) (σ : Sig) (l : List Sig) (rest : Kern F) :
    iprop(records x κ ∗ signalIn c σ ∗ owing c (fun σ => tallyAt (barCell (signalled σ c)) () 1) (σ :: l) O)
      ⊢ iprop(((iprop(emp) ∗ owing c (fun σ => tallyAt (barCell (signalled σ c)) () 1) l O) -∗ Runs c rest Q)
        -∗ Runs c (.op (signalStep c σ) fun _ => rest) Q) := by
  unfold signalIn owing
  iintro ⟨#HR, ⟨Ht, Hp⟩, ⟨%W, HO⟩⟩ Hk
  ihave #HI := (records_bar x κ (signalled σ c)) $$ HR
  ihave #Hr := (records_reached x κ (signalled σ c)) $$ HR
  iapply (Rounds.wp_signal 𝒱₀ ER (gatherRd x) (c : Thread nD τ) none (dst := (signalled σ c : Thread nD τ)) (sem := barS) (r := 0) (d := σ)
      (κ := κ (barCell (signalled σ c))) (by rw [duties_bar]; exact Finset.mem_univ _) (amount_bar x (signalled σ c) 0 σ) ()
      ((l.map fun σ => tallyAt (barCell (signalled σ c)) () 1).sum + O)
      (owing_cons (fun σ => tallyAt (barCell (signalled σ c)) () 1) σ l O)) $$ [HO Ht Hp]
  · isplitr; · iexact HI
    isplitl [HO]; · iexact HO
    isplitl [Ht]; · iexact Ht
    isplitl [Hp]; · rw [payload_bar]; iexact Hp
    iexact Hr
  iintro HO
  iapply Hk
  isplitr; · iempintro
  iexists W; iexact HO

/-- What a copy takes besides the slot it reads. -/
def copyIn (c : Dev nD) (k : Copy) : sProp 𝕄 :=
  iprop(room c k ∗ dutyTok ER (dcell c 0 k) 0 0 ∗ dutyTok ER (dcell (dest k c) 1 k) 0 0 ∗ reached ER (dcell c 0 k) 0)

theorem copy_step (κ : GSem nD τ sig → ℕ) (c : Dev nD) (O : CellTallies nD τ sig Unit) (Q : PUnit → sProp 𝕄) (k : Copy) (l : List Copy) (rest : Kern F) :
    iprop(records x κ ∗ (sendPay x c k ∗ copyIn c k) ∗ owing c (fun k => tallyAt (dcell (dest k c) 1 k) () N) (k :: l) O)
      ⊢ iprop(((cred (tallyAt (dcell c 0 k) () N) ∗ owing c (fun k => tallyAt (dcell (dest k c) 1 k) () N) l O) -∗ Runs c rest Q)
        -∗ Runs c (.op (copyStep c k) fun _ => rest) Q) := by
  unfold sendPay copyIn room owing
  iintro ⟨#HR, ⟨Hs, ⟨⟨%fn, Hd⟩, #HrV⟩, HtS, HtV, #HrS⟩, ⟨%W, HO⟩⟩ Hk
  ihave #HI₁ := (records_copy x κ c 0 k) $$ HR
  ihave #HI₂ := (records_copy x κ (dest k c) 1 k) $$ HR
  iapply (Rounds.wp_send_pointsTo 𝒱₀ ER (gatherRd x) (c : Thread nD τ) none (c' := (dest k c : Thread nD τ)) (src := slotM (carried k c)) (dst := slotM (carried k c))
      (sS := .dma (sendSem k)) (sem := .dma (recvSem k)) (q := readShare k) (fs := gathered x) (κ₁ := κ (dcell c 0 k)) (κ₂ := κ (dcell (dest k c) 1 k))
      (r₁ := 0) (r₂ := 0) (d₁ := 0) (d₂ := 0) (fd := fn)
      (by rw [show ((c : Thread nD τ), SemLoc.dma (sendSem k)) = dcell c 0 k from rfl, duties_copy]; exact Finset.mem_singleton_self _)
      (by rw [show ((dest k c : Thread nD τ), SemLoc.dma (recvSem k)) = dcell (dest k c) 1 k from rfl, duties_copy]; exact Finset.mem_singleton_self _)
      () () N rfl (amount_copy x c 0 k 0 0) (amount_copy x (dest k c) 1 k 0 0)
      ((l.map fun k => tallyAt (dcell (dest k c) 1 k) () N).sum + O)
      (owing_cons (fun k => tallyAt (dcell (dest k c) 1 k) () N) k l O) (W := W)
      (Entails.of_eq (payload_send x c k 0 0).symm)
      (by
        refine Entails.of_eq ?_
        refine Eq.trans ?_ (payload_recv x (dest k c) k 0 0).symm
        unfold recvPay filled
        rw [origin_dest]
        exact pointsTo_congr (landed_eq (carried k c) (gathered x) fn))) $$ [Hs Hd HO HtS HtV]
  · isplitr; · iexact HI₁
    isplitr; · iexact HI₂
    isplitl [Hs]; · iexact Hs
    isplitl [Hd]; · iexact Hd
    isplitl [HO]; · iexact HO
    isplitl [HtS]; · iexact HtS
    isplitr; · iexact HrS
    isplitl [HtV]; · iexact HtV
    iexact HrV
  iintro ⟨Hc, HO⟩
  iapply Hk
  isplitl [Hc]; · iexact Hc
  iexists W; iexact HO

theorem slot_exact (s : Dev nD) : (slotM s).view.WordExact := (outM_whole.wordExact_slice rfl _ (slot_words s)).reshape _ _

/-- What a wait for an end of a copy takes, and what it leaves. -/
def waitIn (c : Dev nD) (b : Fin 2) (k : Copy) : sProp 𝕄 := iprop(cred (tallyAt (dcell c b k) () N) ∗ atPos ER (dcell c b k) 0 ∅ 0)
def waitOut (c : Dev nD) (b : Fin 2) (k : Copy) : sProp 𝕄 := iprop(atPos ER (dcell c b k) 1 ∅ 0 ∗ endPay x c b k)

theorem wait_step (κ : GSem nD τ sig → ℕ) (c : Dev nD) (b : Fin 2) (k : Copy) (O : CellTallies nD τ sig Unit) (Q : PUnit → sProp 𝕄) (rest : Kern F) :
    iprop(records x κ ∗ waitIn c b k ∗ MayWait (c : Thread nD τ) (.dma (endSem b k)) () O ∗ ∃ W, owes (c : Thread nD τ) O W)
      ⊢ iprop(((waitOut x c b k ∗ ∃ W, owes (c : Thread nD τ) O W) -∗ Runs c rest Q) -∗ Runs c (.op (waitStep b k) fun _ => rest) Q) := by
  unfold waitIn waitOut
  iintro ⟨#HR, ⟨Hc, Hat⟩, Hm, ⟨%W, HO⟩⟩ Hk
  ihave #HI := (records_copy x κ c b k) $$ HR
  iapply (Rounds.wp_wait_rest_token 𝒱₀ ER (gatherRd x) (c : Thread nD τ) none (κ := κ (dcell c b k))
      (wpE_waitDma2_eq (src := slotM 0) (dst := slotM 0) (hsrc := slot_exact 0) (hdst := slot_exact 0) 𝒱₀ (c : Thread nD τ) none Set.univ) (Set.mem_univ _) () (O := O) (W := W) (R := 0) (m := 0) (T := ∅)
      ((Nat.zero_add _).trans (expect_copy x c b k).symm)) $$ [Hc HO Hm Hat]
  · isplitr; · iexact HI
    isplitl [Hc]; · iexact Hc
    isplitl [HO]; · iexact HO
    isplitl [Hm]; · iexact Hm
    iexact Hat
  iintro ⟨HO, Hat, -, Hpay⟩
  ihave Hp := (Entails.of_eq (rest_copy x c b k)) $$ Hpay
  iapply Hk
  isplitr [HO]
  · isplitl [Hat]; · iexact Hat
    iexact Hp
  iexists _; iexact HO

/-- The waits of a list, nothing being owed. -/
theorem run_waits (κ : GSem nD τ sig → ℕ) (c : Dev nD) (b : Fin 2) (Q : PUnit → sProp 𝕄) (rest : Kern F) (l : List Copy) :
    iprop(records x κ ∗ bigSepL l (waitIn c b) ∗ ∃ W, owes (c : Thread nD τ) (0 : CellTallies nD τ sig Unit) W)
      ⊢ iprop(((bigSepL l (waitOut x c b) ∗ ∃ W, owes (c : Thread nD τ) (0 : CellTallies nD τ sig Unit) W) -∗ Runs c rest Q)
        -∗ Runs c (steps (l.map (waitStep b)) rest) Q) := by
  have hz (l : List Copy) : (owing c (fun _ => 0) l 0 : sProp 𝕄) = iprop(∃ W, owes (c : Thread nD τ) (0 : CellTallies nD τ sig Unit) W) := by
    unfold owing
    rw [show (l.map fun _ => (0 : CellTallies nD τ sig Unit)).sum + 0 = 0 from by rw [add_zero]; exact List.sum_eq_zero (by simp)]
  have h := run_each c (records x κ) (waitStep b) (fun _ => 0) 0 (waitIn c b) (waitOut x c b) Q (fun a l rest => by
    rw [hz, hz]
    iintro ⟨#HR, Ha, HO⟩ Hk
    iapply (wait_step x κ c b a 0 Q rest) $$ [Ha HO]
    · isplitr; · iexact HR
      isplitl [Ha]; · iexact Ha
      isplitr; · rw [MayWait_zero]; iempintro
      iexact HO
    iexact Hk) rest l
  rw [hz, hz] at h
  exact h

/-- The wait on the barrier: room for all fifteen copies. -/
theorem barrier_step (κ : GSem nD τ sig → ℕ) (c : Dev nD) (Q : PUnit → sProp 𝕄) (rest : Kern F) :
    iprop(records x κ ∗ (cred (tallyAt (barCell c) () 8) ∗ atPos ER (barCell c) 0 ∅ 0) ∗ ∃ W, owes (c : Thread nD τ) (O₁ c) W)
      ⊢ iprop(((atPos ER (barCell c) 1 ∅ 0 ∗ (bigSep Finset.univ fun k : Copy => room c k) ∗ ∃ W, owes (c : Thread nD τ) (O₁ c) W) -∗ Runs c rest Q)
        -∗ Runs c (.op (.semWait barS 8) fun _ => rest) Q) := by
  iintro ⟨#HR, ⟨Hc, Hat⟩, ⟨%W, HO⟩⟩ Hk
  ihave #HI := (records_bar x κ c) $$ HR
  iapply (Rounds.wp_wait_rest_token 𝒱₀ ER (gatherRd x) (c : Thread nD τ) none (κ := κ (barCell c))
      (wpE_semWait_eq 𝒱₀ (c : Thread nD τ) none Set.univ) (Set.mem_univ _) () (O := O₁ c) (W := W) (R := 0) (m := 0) (T := ∅)
      ((Nat.zero_add _).trans (expect_bar x c).symm)) $$ [Hc HO Hat]
  · isplitr; · iexact HI
    isplitl [Hc]; · iexact Hc
    isplitl [HO]; · iexact HO
    isplitr
    · have h : (levAts L lv : sProp 𝕄) ⊢ MayWait (c : Thread nD τ) (.reg barS) () (O₁ c) := mayWait_bar c
      ihave #Hl := (@records_levels F _ x κ) $$ HR
      iapply h; iexact Hl
    iexact Hat
  iintro ⟨HO, Hat, -, Hpay⟩
  ihave Hp := (Entails.of_eq (rest_bar x c)) $$ Hpay
  iapply Hk
  isplitl [Hat]; · iexact Hat
  isplitl [Hp]; · iexact Hp
  iexists _; iexact HO

end Cert.Gather

end
-- ==== Proof.Body.lean ====
/-
# The body from start to end

From the input block, the output at any contents and the protocol's resources, the body runs to the output at the
gathered contents, every semaphore back in hand at zero and nothing owed.
-/
module

public import proofs.«01_k».proof.Proof.Run

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)

variable {F : FTy → Type} [FloatOps F]

local notation "𝕄" => MT nD τ sig Unit (Elt F) ℕ UU ℕ

variable (x : Blocks F)

/-! ## The fifteen copies, listed -/

theorem by_group (Φ : Copy → sProp 𝕄) :
    bigSep Finset.univ Φ = iprop(bigSepL firstCopies Φ ∗ bigSepL secondCopies Φ ∗ bigSepL thirdCopies Φ) := by
  rw [bigSep_univ_eq_bigSepL (firstCopies ++ (secondCopies ++ thirdCopies)) (by decide) (by decide), bigSepL_append, bigSepL_append]
theorem by_arrival (Φ : Copy → sProp 𝕄) : bigSep Finset.univ Φ = iprop(Φ 0 ∗ Φ 11 ∗ bigSepL lateReceives Φ) := by
  rw [bigSep_univ_eq_bigSepL (0 :: 11 :: lateReceives) (by decide) (by decide), bigSepL_cons', bigSepL_cons']
theorem by_end (Φ : Fin 2 × Copy → sProp 𝕄) :
    bigSep Finset.univ Φ = iprop((bigSep Finset.univ fun k => Φ (0, k)) ∗ bigSep Finset.univ fun k => Φ (1, k)) := by
  rw [bigSep_univ_prod, bigSep_fin_two]; rfl
theorem by_departure (Φ : Copy → sProp 𝕄) : bigSep Finset.univ Φ = bigSepL allSends Φ :=
  bigSep_univ_eq_bigSepL allSends (by decide) (by decide) Φ
theorem by_signal (Φ : Sig → sProp 𝕄) : bigSep Finset.univ Φ = bigSepL signals Φ :=
  bigSep_univ_eq_bigSepL signals (by decide) (by decide) Φ
theorem bigSepL_sep {ι : Type} (l : List ι) (Φ Ψ : ι → sProp 𝕄) : iprop(bigSepL l Φ ∗ bigSepL l Ψ) ⊢ bigSepL l fun i => iprop(Φ i ∗ Ψ i) := by
  induction l with
  | nil => exact (sep_emp (PROP := sProp 𝕄)).1
  | cons i l ih =>
    rw [bigSepL_cons', bigSepL_cons', bigSepL_cons']
    iintro ⟨⟨Ha, Hl⟩, ⟨Hb, Hm⟩⟩
    isplitl [Ha Hb]
    · isplitl [Ha]; · iexact Ha
      iexact Hb
    iapply ih
    isplitl [Hl]; · iexact Hl
    iexact Hm
theorem bigSepL_sep_elim {ι : Type} (l : List ι) (Φ Ψ : ι → sProp 𝕄) : (bigSepL l fun i => iprop(Φ i ∗ Ψ i)) ⊢ iprop(bigSepL l Φ ∗ bigSepL l Ψ) := by
  induction l with
  | nil => exact (sep_emp (PROP := sProp 𝕄)).2
  | cons i l ih =>
    rw [bigSepL_cons', bigSepL_cons', bigSepL_cons']
    iintro ⟨⟨Ha, Hb⟩, Hl⟩
    ihave H := ih $$ Hl
    icases H with ⟨Hl, Hm⟩
    isplitl [Ha Hl]
    · isplitl [Ha]; · iexact Ha
      iexact Hl
    isplitl [Hb]; · iexact Hb
    iexact Hm

/-- A slot held whole is the shares its copies read. -/
theorem deal (c s : Dev nD) (l : List Copy) (hl : l.Nodup) (hne : l.toFinset.Nonempty) (h : ∀ k ∈ l, together k = l.toFinset) (hs : ∀ k ∈ l, carried k c = s) :
    (slotPts c s fullShare (gathered x) : sProp 𝕄) = bigSepL l (sendPay x c) := by
  unfold slotPts
  rw [Transfers.pointsTo_deal l.toFinset hne, ← bigSep_eq_bigSepL l hl]
  refine bigSep_congr fun k hk => ?_
  have hk := List.mem_toFinset.mp hk
  unfold sendPay readShare
  rw [h k hk, hs k hk]

theorem deal_first (c : Dev nD) : (slotPts c c fullShare (gathered x) : sProp 𝕄) = bigSepL firstCopies (sendPay x c) :=
  deal x c c firstCopies (by decide) (by decide) (by decide) (by revert c; decide)
theorem deal_second (c : Dev nD) : (slotPts c (partner c) fullShare (gathered x) : sProp 𝕄) = bigSepL secondCopies (sendPay x c) :=
  deal x c (partner c) secondCopies (by decide) (by decide) (by decide) (by revert c; decide)
theorem deal_third (c : Dev nD) : (slotPts c (partner (cousin c)) fullShare (gathered x) : sProp 𝕄) = bigSepL thirdCopies (sendPay x c) :=
  deal x c (partner (cousin c)) thirdCopies (by decide) (by decide) (by decide) (by revert c; decide)

theorem filled_first (c : Dev nD) : filled 0 c = partner c := by revert c; decide
theorem filled_second (c : Dev nD) : filled 11 c = partner (cousin c) := by revert c; decide

/-! ## The own block goes to the own slot -/

abbrev inPts (c : Dev nD) (v : Buf (Elt F) ((c : Thread nD τ).loc cc0_stg0_0)) : sProp 𝕄 := ((c : Thread nD τ).loc cc0_stg0_0) ↦{fullShare} v

theorem load_in_slot (c : Dev nD) : outM.view.setOn (slotR c).toLoadRect.set ⊆ slotSet c := fun i hi => by
  obtain ⟨j, hj, rfl⟩ := Finset.mem_map.mp hi
  rw [slotSet_eq]; exact hj
theorem store_in_slot (c : Dev nD) : (outM.access (slotR c)).setOn Finset.univ ⊆ slotSet c := by
  rw [View.setOn_univ, show (outM.access (slotR c)).set = (slotR c).set from View.set_slice_whole cc0_stg1_0 (slotR c), slotSet_eq]

theorem place_step (c : Dev nD) (Q : PUnit → sProp 𝕄) (rest : Kern F) (f : Buf (Elt F) ((slotM c).view.loc (c : Thread nD τ))) :
    iprop(inPts c (x c) ∗ slotPts c c fullShare f)
      ⊢ iprop(((inPts c (x c) ∗ slotPts c c fullShare (gathered x)) -∗ Runs c rest Q) -∗ Runs c (place (slotOff c) (slot_fits c) (slot_packed c) rest) Q) := by
  unfold place
  iintro ⟨Hx, Ho⟩ Hk
  iapply (wp_load 𝒱₀ (c : Thread nD τ) none Set.univ (m := inM) (Finset.subset_univ _)) $$ Hx
  iintro Hx
  rw [show inM.view.readAt (Elt F) (Rect.unit (s := S256x256) ![0, 0] S256x256.size inb_S256x256_S256x256_0_0).toLoadRect (x c) = x c from
    Memref.readAt_unit_zero (Elt F) cc0_stg0_0 (funext fun a => by match a with | ⟨0, _⟩ => rfl | ⟨1, _⟩ => rfl) _ (x c)]
  iapply (wp_load 𝒱₀ (c : Thread nD τ) none Set.univ (m := outM) (S := slotSet c) (load_in_slot c)) $$ Ho
  iintro Ho
  iapply (wp_store 𝒱₀ (c : Thread nD τ) none Set.univ (m := outM) (r := slotR c) (Mk := Finset.univ) (S := slotSet c) (store_in_slot c)) $$ Ho
  iintro Ho
  have e : (slotPts c c fullShare ((outM.access (slotR c)).write (Elt F) f (k0_pay1 (x c)) Finset.univ) : sProp 𝕄) = slotPts c c fullShare (gathered x) :=
    pointsTo_congr (stored_eq x c f)
  iapply Hk
  isplitl [Hx]; · iexact Hx
  rw [← e]; iexact Ho

/-! ## What the body starts from -/

/-- The tokens copy `k` is counted with, and that its departure is not yet counted. -/
def copyTokens (c : Dev nD) (k : Copy) : sProp 𝕄 :=
  iprop(dutyTok ER (dcell c 0 k) 0 0 ∗ dutyTok ER (dcell (dest k c) 1 k) 0 0)

/-- A copy semaphore at its start. -/
def opened (c : Dev nD) (e : Fin 2 × Copy) : sProp 𝕄 := iprop(atPos ER (dcell c e.1 e.2) 0 ∅ 0 ∗ reached ER (dcell c e.1 e.2) 0)

/-- What device `c` holds of the protocol when the body starts, every copy semaphore aside. -/
def tokens (c : Dev nD) : sProp 𝕄 :=
  iprop(atPos ER (barCell c) 0 ∅ 0 ∗ (bigSep Finset.univ fun σ : Sig => dutyTok ER (barCell (signalled σ c)) 0 σ)
    ∗ bigSep Finset.univ (copyTokens c))
def credits (c : Dev nD) : sProp 𝕄 :=
  iprop(cred (tallyAt (barCell c) () 8) ∗ bigSep Finset.univ fun k : Copy => cred (tallyAt (dcell c 1 k) () N))

def copyKit (c : Dev nD) (k : Copy) : sProp 𝕄 := iprop(copyTokens c k ∗ reached ER (dcell c 0 k) 0)

theorem prepare (c : Dev nD) (f : Buf (Elt F) ((c : Thread nD τ).loc cc0_stg1_0)) :
    iprop(tokens c ∗ credits c ∗ bigSep Finset.univ (opened c) ∗ outPts c f)
      ⊢ (iprop((cred (tallyAt (barCell c) () 8) ∗ atPos ER (barCell c) 0 ∅ 0) ∗ slotPts c c fullShare f ∗ bigSepL signals (signalIn c)
        ∗ bigSep Finset.univ (copyKit c) ∗ (bigSep Finset.univ fun k : Copy => atPos ER (dcell c 0 k) 0 ∅ 0) ∗ bigSep Finset.univ (waitIn c 1)) : sProp 𝕄) := by
  have hroom : iprop((bigSep Finset.univ fun k : Copy => slotPts c (filled k c) fullShare f) ∗ bigSep Finset.univ fun k : Copy => reached ER (dcell c 1 k) 0)
      ⊢ (bigSep Finset.univ fun σ : Sig => barPay (signalled σ c) σ : sProp 𝕄) := by
    have h (k : Copy) : iprop(slotPts c (filled k c) fullShare f ∗ reached ER (dcell c 1 k) 0) ⊢ (room (origin k c) k : sProp 𝕄) := by
      rw [room_origin]
      iintro ⟨Hs, Hr⟩
      isplitl [Hs]; · iexists f; iexact Hs
      iexact Hr
    rw [barPay_paid]
    exact bigSep_pair.trans (bigSep_mono fun k _ => h k)
  have hopen : (bigSep Finset.univ (opened c) : sProp 𝕄)
      ⊢ iprop(((bigSep Finset.univ fun k : Copy => atPos ER (dcell c 0 k) 0 ∅ 0) ∗ bigSep Finset.univ fun k : Copy => reached ER (dcell c 0 k) 0)
        ∗ ((bigSep Finset.univ fun k : Copy => atPos ER (dcell c 1 k) 0 ∅ 0) ∗ bigSep Finset.univ fun k : Copy => reached ER (dcell c 1 k) 0)) := by
    rw [by_end]
    exact BI.sep_mono bigSep_unpair bigSep_unpair
  rw [outPts_slots, ← by_signal]
  unfold tokens credits
  iintro ⟨⟨Hat, HtB, HtC⟩, ⟨HcB, HcV⟩, Ho, Hown, Hslots⟩
  ihave Ho' := hopen $$ Ho
  icases Ho' with ⟨⟨HatS, HrS⟩, HatV, HrV⟩
  isplitl [HcB Hat]
  · isplitl [HcB]; · iexact HcB
    iexact Hat
  isplitl [Hown]; · iexact Hown
  isplitl [HtB Hslots HrV]
  · ihave Hp := hroom $$ [Hslots HrV]
    · isplitl [Hslots]; · iexact Hslots
      iexact HrV
    have h : iprop((bigSep Finset.univ fun σ : Sig => dutyTok ER (barCell (signalled σ c)) 0 σ) ∗ bigSep Finset.univ fun σ : Sig => barPay (signalled σ c) σ)
      ⊢ (bigSep Finset.univ (signalIn c) : sProp 𝕄) := bigSep_pair
    iapply h
    isplitl [HtB]; · iexact HtB
    iexact Hp
  isplitl [HtC HrS]
  · have h : iprop((bigSep Finset.univ (copyTokens c)) ∗ bigSep Finset.univ fun k : Copy => reached ER (dcell c 0 k) 0)
      ⊢ (bigSep Finset.univ (copyKit c) : sProp 𝕄) := bigSep_pair
    iapply h
    isplitl [HtC]; · iexact HtC
    iexact HrS
  isplitl [HatS]; · iexact HatS
  have h : iprop((bigSep Finset.univ fun k : Copy => cred (tallyAt (dcell c 1 k) () N)) ∗ bigSep Finset.univ fun k : Copy => atPos ER (dcell c 1 k) 0 ∅ 0)
    ⊢ (bigSep Finset.univ (waitIn c 1) : sProp 𝕄) := bigSep_pair
  iapply h
  isplitl [HcV]; · iexact HcV
  iexact HatV

/-- Room and tokens make what the copies take. -/
theorem equip (c : Dev nD) :
    iprop((bigSep Finset.univ fun k : Copy => room c k) ∗ bigSep Finset.univ (copyKit c)) ⊢ (bigSep Finset.univ (copyIn c) : sProp 𝕄) := by
  have h (k : Copy) : iprop(room c k ∗ copyKit c k) ⊢ (copyIn c k : sProp 𝕄) := by
    unfold copyKit copyTokens copyIn
    iintro ⟨Hr, ⟨HtS, HtV⟩, HrS⟩
    isplitl [Hr]; · iexact Hr
    isplitl [HtS]; · iexact HtS
    isplitl [HtV]; · iexact HtV
    iexact HrS
  exact bigSep_pair.trans (bigSep_mono fun k _ => h k)

/-! ## What it ends with -/

/-- The shares back and the slots received are the whole output at the gathered contents. -/
theorem rejoin (c : Dev nD) :
    iprop(bigSepL allSends (waitOut x c 0) ∗ atPos ER (dcell c 1 0) 1 ∅ 0 ∗ atPos ER (dcell c 1 11) 1 ∅ 0 ∗ bigSepL lateReceives (waitOut x c 1))
      ⊢ (iprop((bigSep Finset.univ fun e : Fin 2 × Copy => atPos ER (dcell c e.1 e.2) 1 ∅ 0) ∗ outPts c (gathered x)) : sProp 𝕄) := by
  have hsend : (bigSepL allSends (waitOut x c 0) : sProp 𝕄) ⊢ iprop((bigSep Finset.univ fun k : Copy => atPos ER (dcell c 0 k) 1 ∅ 0)
      ∗ slotPts c c fullShare (gathered x) ∗ slotPts c (partner c) fullShare (gathered x) ∗ slotPts c (partner (cousin c)) fullShare (gathered x)) := by
    rw [← by_departure, deal_first, deal_second, deal_third, ← by_group]
    exact bigSep_unpair
  have hrecv : (bigSepL lateReceives (waitOut x c 1) : sProp 𝕄) ⊢ iprop((bigSepL lateReceives fun k => atPos ER (dcell c 1 k) 1 ∅ 0)
      ∗ bigSepL lateReceives fun k => slotPts c (filled k c) fullShare (gathered x)) :=
    bigSepL_sep_elim _ _ _
  rw [outPts_slots, by_arrival fun k => slotPts c (filled k c) fullShare (gathered x), by_end,
    by_arrival fun k => atPos ER (dcell c 1 k) 1 ∅ 0, filled_first, filled_second]
  iintro ⟨Hs, Ha0, Ha11, Hv⟩
  ihave Hs' := hsend $$ Hs
  icases Hs' with ⟨HaS, Hc, Hp, Hq⟩
  ihave Hv' := hrecv $$ Hv
  icases Hv' with ⟨HaV, Hl⟩
  isplitl [HaS Ha0 Ha11 HaV]
  · isplitl [HaS]; · iexact HaS
    isplitl [Ha0]; · iexact Ha0
    isplitl [Ha11]; · iexact Ha11
    iexact HaV
  isplitl [Hc]; · iexact Hc
  isplitl [Hp]; · iexact Hp
  isplitl [Hq]; · iexact Hq
  iexact Hl

/-- Every semaphore of the device back in hand at zero. -/
def counters (c : Dev nD) : sProp 𝕄 := iprop(semVal (barCell c) 0 ∗ bigSep Finset.univ fun e : Fin 2 × Copy => semVal (dcell c e.1 e.2) 0)

theorem close_cell (κ : GSem nD τ sig → ℕ) (g : GSem nD τ sig) :
    iprop(cellInv ER (gatherRd x) (κ g) g ∗ atPos ER g (0 + 1) ∅ 0) ⊢ (|={Set.univ}=> semVal g 0 : sProp 𝕄) :=
  Rounds.cell_close ER (gatherRd x) (Set.mem_univ _) id (duties_later x g)

theorem close_all (κ : GSem nD τ sig → ℕ) (c : Dev nD) :
    iprop(records x κ ∗ atPos ER (barCell c) 1 ∅ 0 ∗ bigSep Finset.univ fun e : Fin 2 × Copy => atPos ER (dcell c e.1 e.2) 1 ∅ 0)
      ⊢ (|={Set.univ}=> counters c : sProp 𝕄) := by
  have h : iprop(records x κ ∗ bigSep Finset.univ fun e : Fin 2 × Copy => atPos ER (dcell c e.1 e.2) 1 ∅ 0)
      ⊢ (|={Set.univ}=> bigSep Finset.univ fun e : Fin 2 × Copy => semVal (dcell c e.1 e.2) 0 : sProp 𝕄) := by
    refine (bigSep_with_persistent (R := records x κ) (Ψ := fun e : Fin 2 × Copy => iprop(|={Set.univ}=> semVal (dcell c e.1 e.2) 0)) fun e _ => ?_).trans
      (bigSep_fupd _ _)
    exact (sep_mono_left (records_copy x κ c e.1 e.2)).trans (close_cell x κ (dcell c e.1 e.2))
  unfold counters
  iintro ⟨#HR, Hb, He⟩
  ihave #HI := (records_bar x κ c) $$ HR
  imod (close_cell x κ (barCell c)) $$ [Hb] with Hb
  · isplitr; · iexact HI
    iexact Hb
  imod h $$ [He] with He
  · isplitr; · iexact HR
    iexact He
  imodintro
  isplitl [Hb]; · iexact Hb
  iexact He

/-! ## The run -/

theorem owing_of (c : Dev nD) {ι : Type} (pays : ι → CellTallies nD τ sig Unit) (l : List ι) (O : CellTallies nD τ sig Unit) (W : Waits sig Unit) :
    (owes (c : Thread nD τ) ((l.map pays).sum + O) W : sProp 𝕄) ⊢ owing c pays l O := by
  unfold owing
  iintro H; iexists W; iexact H
theorem owing_done (c : Dev nD) {ι : Type} (pays : ι → CellTallies nD τ sig Unit) (O : CellTallies nD τ sig Unit) :
    (owing c pays [] O : sProp 𝕄) ⊢ iprop(∃ W, owes (c : Thread nD τ) O W) := by
  unfold owing
  rw [List.map_nil, List.sum_nil, zero_add]

/-- The copies of a list. -/
theorem run_copies (κ : GSem nD τ sig → ℕ) (c : Dev nD) (O : CellTallies nD τ sig Unit) (Q : PUnit → sProp 𝕄) (rest : Kern F) (l : List Copy) :
    iprop(records x κ ∗ (bigSepL l (sendPay x c) ∗ bigSepL l (copyIn c)) ∗ ∃ W, owes (c : Thread nD τ) (owedCopies c l + O) W)
      ⊢ iprop((((bigSepL l fun k => cred (tallyAt (dcell c 0 k) () N)) ∗ ∃ W, owes (c : Thread nD τ) O W) -∗ Runs c rest Q)
        -∗ Runs c (steps (l.map (copyStep c)) rest) Q) := by
  have h := run_each c (records x κ) (copyStep c) (fun k => tallyAt (dcell (dest k c) 1 k) () N) O (fun k => iprop(sendPay x c k ∗ copyIn c k))
    (fun k => cred (tallyAt (dcell c 0 k) () N)) Q (fun k l rest => copy_step x κ c O Q k l rest) rest l
  iintro ⟨#HR, Hs, ⟨%W, HO⟩⟩ Hk
  iapply h $$ [Hs HO]
  · isplitr; · iexact HR
    isplitl [Hs]; · iapply (bigSepL_sep l (sendPay x c) (copyIn c)); iexact Hs
    iapply (owing_of c (fun k => tallyAt (dcell (dest k c) 1 k) () N) l O W); iexact HO
  iintro ⟨Hc, HO⟩
  iapply Hk
  isplitl [Hc]; · iexact Hc
  iapply (owing_done c (fun k => tallyAt (dcell (dest k c) 1 k) () N) O); iexact HO

/-- The signals. -/
theorem run_signals (κ : GSem nD τ sig → ℕ) (c : Dev nD) (O : CellTallies nD τ sig Unit) (Q : PUnit → sProp 𝕄) (rest : Kern F) (l : List Sig) :
    iprop(records x κ ∗ bigSepL l (signalIn c) ∗ ∃ W, owes (c : Thread nD τ) (owedSignals c l + O) W)
      ⊢ iprop(((∃ W, owes (c : Thread nD τ) O W) -∗ Runs c rest Q) -∗ Runs c (steps (l.map (signalStep c)) rest) Q) := by
  have h := run_each c (records x κ) (signalStep c) (fun σ => tallyAt (barCell (signalled σ c)) () 1) O (signalIn c)
    (fun _ => iprop(emp)) Q (fun σ l rest => signal_step x κ c O Q σ l rest) rest l
  iintro ⟨#HR, Hs, ⟨%W, HO⟩⟩ Hk
  iapply h $$ [Hs HO]
  · isplitr; · iexact HR
    isplitl [Hs]; · iexact Hs
    iapply (owing_of c (fun σ => tallyAt (barCell (signalled σ c)) () 1) l O W); iexact HO
  iintro ⟨-, HO⟩
  iapply Hk
  iapply (owing_done c (fun σ => tallyAt (barCell (signalled σ c)) () 1) O); iexact HO

/-- The wait for the arrival of copy `k`, the rest owed being above it. -/
theorem run_arrival (κ : GSem nD τ sig → ℕ) (c : Dev nD) (k : Copy) (O : CellTallies nD τ sig Unit) (Q : PUnit → sProp 𝕄) (rest : Kern F)
    (hO : (levAts L lv : sProp 𝕄) ⊢ MayWait (c : Thread nD τ) (.dma (endSem 1 k)) () O) :
    iprop(records x κ ∗ waitIn c 1 k ∗ ∃ W, owes (c : Thread nD τ) O W)
      ⊢ iprop(((atPos ER (dcell c 1 k) 1 ∅ 0 ∗ slotPts c (filled k c) fullShare (gathered x) ∗ ∃ W, owes (c : Thread nD τ) O W) -∗ Runs c rest Q)
        -∗ Runs c (.op (waitStep 1 k) fun _ => rest) Q) := by
  iintro ⟨#HR, Hw, HO⟩ Hk
  ihave #Hl := (@records_levels F _ x κ) $$ HR
  iapply (wait_step x κ c 1 k O Q rest) $$ [Hw HO]
  · isplitr; · iexact HR
    isplitl [Hw]; · iexact Hw
    isplitr; · iapply hO; iexact Hl
    iexact HO
  iintro ⟨Hw, HO⟩
  have h : (waitOut x c 1 k : sProp 𝕄) ⊢ iprop(atPos ER (dcell c 1 k) 1 ∅ 0 ∗ slotPts c (filled k c) fullShare (gathered x)) := .rfl
  ihave Hw' := h $$ Hw
  icases Hw' with ⟨Ha, Hs⟩
  iapply Hk
  isplitl [Ha]; · iexact Ha
  isplitl [Hs]; · iexact Hs
  iexact HO

/-- The body on device `c`. -/
theorem run_plan (κ : GSem nD τ sig → ℕ) (c : Dev nD) (f : Buf (Elt F) ((c : Thread nD τ).loc cc0_stg1_0)) (Q : PUnit → sProp 𝕄) :
    iprop(records x κ ∗ (tokens c ∗ credits c ∗ bigSep Finset.univ (opened c) ∗ outPts c f) ∗ inPts c (x c) ∗ (∃ W, owes (c : Thread nD τ) (O₀ c) W)
        ∗ ((counters c ∗ outPts c (gathered x) ∗ inPts c (x c) ∗ ∃ W, owes (c : Thread nD τ) (0 : CellTallies nD τ sig Unit) W) -∗ Q ⟨⟩))
      ⊢ Runs c (plan c) Q := by
  unfold plan
  iintro ⟨#HR, Hres, Hx, HO, HQ⟩
  ihave Hp := (prepare c f) $$ Hres
  icases Hp with ⟨Hbar, Hown, Hsig, Hkit, HatS, HwV⟩
  iapply (run_signals x κ c (O₁ c) Q _ signals) $$ [Hsig HO]
  · isplitr; · iexact HR
    isplitl [Hsig]; · iexact Hsig
    iexact HO
  iintro HO
  iapply (barrier_step x κ c Q _) $$ [Hbar HO]
  · isplitr; · iexact HR
    isplitl [Hbar]; · iexact Hbar
    iexact HO
  iintro ⟨HatB, Hroom, HO⟩
  ihave Hin := (equip c) $$ [Hroom Hkit]
  · isplitl [Hroom]; · iexact Hroom
    iexact Hkit
  ihave Hin' := (Entails.of_eq (by_group (copyIn c))) $$ Hin
  icases Hin' with ⟨Hin1, Hin2, Hin3⟩
  ihave HwV' := (Entails.of_eq (by_arrival (waitIn c 1))) $$ HwV
  icases HwV' with ⟨Hw0, Hw11, HwL⟩
  iapply (place_step x c Q _ f) $$ [Hx Hown]
  · isplitl [Hx]; · iexact Hx
    iexact Hown
  iintro ⟨Hx, Hown⟩
  ihave Hs1 := (Entails.of_eq (deal_first x c)) $$ Hown
  iapply (run_copies x κ c (owedCopies c secondCopies + owedCopies c thirdCopies) Q _ firstCopies) $$ [Hs1 Hin1 HO]
  · isplitr; · iexact HR
    isplitl [Hs1 Hin1]
    · isplitl [Hs1]; · iexact Hs1
      iexact Hin1
    iexact HO
  iintro ⟨Hc1, HO⟩
  iapply (run_arrival x κ c 0 _ Q _ (mayWait_first c)) $$ [Hw0 HO]
  · isplitr; · iexact HR
    isplitl [Hw0]; · iexact Hw0
    iexact HO
  rw [filled_first, deal_second]
  iintro ⟨Ha0, Hs2, HO⟩
  iapply (run_copies x κ c (owedCopies c thirdCopies) Q _ secondCopies) $$ [Hs2 Hin2 HO]
  · isplitr; · iexact HR
    isplitl [Hs2 Hin2]
    · isplitl [Hs2]; · iexact Hs2
      iexact Hin2
    iexact HO
  iintro ⟨Hc2, HO⟩
  iapply (run_arrival x κ c 11 _ Q _ (mayWait_second c)) $$ [Hw11 HO]
  · isplitr; · iexact HR
    isplitl [Hw11]; · iexact Hw11
    iexact HO
  rw [filled_second, deal_third]
  iintro ⟨Ha11, Hs3, HO⟩
  iapply (run_copies x κ c 0 Q _ thirdCopies) $$ [Hs3 Hin3 HO]
  · isplitr; · iexact HR
    isplitl [Hs3 Hin3]
    · isplitl [Hs3]; · iexact Hs3
      iexact Hin3
    rw [add_zero]; iexact HO
  iintro ⟨Hc3, HO⟩
  iapply (run_waits x κ c 1 Q _ lateReceives) $$ [HwL HO]
  · isplitr; · iexact HR
    isplitl [HwL]; · iexact HwL
    iexact HO
  iintro ⟨HoV, HO⟩
  have hsends : iprop((bigSepL firstCopies fun k => cred (tallyAt (dcell c 0 k) () N)) ∗ (bigSepL secondCopies fun k => cred (tallyAt (dcell c 0 k) () N))
      ∗ (bigSepL thirdCopies fun k => cred (tallyAt (dcell c 0 k) () N)) ∗ bigSep Finset.univ fun k : Copy => atPos ER (dcell c 0 k) 0 ∅ 0)
      ⊢ (bigSepL allSends (waitIn c 0) : sProp 𝕄) := by
    have h : iprop((bigSep Finset.univ fun k : Copy => cred (tallyAt (dcell c 0 k) () N)) ∗ bigSep Finset.univ fun k : Copy => atPos ER (dcell c 0 k) 0 ∅ 0)
      ⊢ (bigSep Finset.univ (waitIn c 0) : sProp 𝕄) := bigSep_pair
    rw [← by_departure]
    rw [by_group fun k => cred (tallyAt (dcell c 0 k) () N)] at h
    iintro ⟨H1, H2, H3, Ha⟩
    iapply h
    isplitr [Ha]
    · isplitl [H1]; · iexact H1
      isplitl [H2]; · iexact H2
      iexact H3
    iexact Ha
  ihave HwS := hsends $$ [Hc1 Hc2 Hc3 HatS]
  · isplitl [Hc1]; · iexact Hc1
    isplitl [Hc2]; · iexact Hc2
    isplitl [Hc3]; · iexact Hc3
    iexact HatS
  iapply (run_waits x κ c 0 Q _ allSends) $$ [HwS HO]
  · isplitr; · iexact HR
    isplitl [HwS]; · iexact HwS
    iexact HO
  iintro ⟨HoS, HO⟩
  ihave Hend := (rejoin x c) $$ [HoS Ha0 Ha11 HoV]
  · isplitl [HoS]; · iexact HoS
    isplitl [Ha0]; · iexact Ha0
    isplitl [Ha11]; · iexact Ha11
    iexact HoV
  icases Hend with ⟨Hat, Ho⟩
  unfold Runs
  rw [wp_ret]
  imod (close_all x κ c) $$ [HatB Hat] with Hz
  · isplitr; · iexact HR
    isplitl [HatB]; · iexact HatB
    iexact Hat
  imodintro
  iapply HQ
  isplitl [Hz]; · iexact Hz
  isplitl [Ho]; · iexact Ho
  isplitl [Hx]; · iexact Hx
  iexact HO

end Cert.Gather

end
-- ==== Proof.Region.lean ====
/-
# The kernel region

The region stages the device's block in, runs the body, and writes the gathered output back. It takes the copy
semaphores at zero, puts each under the protocol on entry, and gives every semaphore back at zero.
-/
module

public import proofs.«01_k».proof.Proof.Body
public import proofs.«01_k».proof.Proof.Gen.KernelIdeal.Launch
public import proofs.«01_k».proof.Proof.Gen.KernelIdeal.Points
public import Idealize.ShloMosaic.Lib.Pipeline.ValueKit
public import Idealize.ShloMosaic.Lib.Pipeline.Regions
public import Idealize.ShloMosaic.Lib.Pipeline.Kit

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Smoke (bigSep_pair bigSep_unpair)

variable {F : FTy → Type} [FloatOps F]

local notation "𝕄" => MT nD τ sig Unit (Elt F) ℕ UU ℕ

variable (m : (ℓ : Loc nD τ sig) → Buf (Elt F) ℓ)

/-- The devices' blocks of the argument. -/
def blocks : Blocks F := fun c => m ((c : Thread nD τ).loc main_arg0)

/-! ## The region's data -/

/-- What the body takes, and what it leaves, beside the staged arrays. -/
def ready (c : Dev nD) : sProp 𝕄 := iprop(∃ κ, records (blocks m) κ ∗ tokens c ∗ credits c ∗ bigSep Finset.univ (opened c))

def dat (c : Dev nD) : Dat τ (Elt F) Unit ℕ UU ℕ cfg0 c where
  A w := m ((cfg0.win w).arr.view.loc (c : Thread nD τ))
  after w _ := match w with
    | ⟨0, _⟩ => blocks m c
    | ⟨1, _⟩ => gathered (blocks m)
  Φ t := if t.val = 0 then ready m c else counters c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

/-- The staged block is the device's block; -/
theorem before_in (c : Dev nD) (d : (cfg0.win 0).block.Idx → Elt F (cfg0.win 0).elt) : (dat m c).before 0 t0_0 d = blocks m c := by
  have e : (dat m c).before 0 t0_0 d = ((cfg0.win 0).blk t0_0).view.read (Elt F) (blocks m c) := by
    unfold Dat.before; rw [if_pos (fetch0_0 t0_0)]; rfl
  rw [e]
  funext y
  show blocks m c (((cfg0.win 0).blk t0_0).view.emb y) = blocks m c y
  congr 1
  funext a
  apply Fin.ext
  match a with
  | ⟨0, _⟩ => exact (Nat.zero_add _).trans (Nat.one_mul _)
  | ⟨1, _⟩ => exact (Nat.zero_add _).trans (Nat.one_mul _)
/-- and the result array ends gathered. -/
theorem result_at (c : Dev nD) : (dat m c).arrAt 1 cfg0.N = gathered (blocks m) := by
  refine (dat m c).arrAt_eq_of_after_last 1 t0_0 (by decide +kernel) _ fun j => ?_
  rfl

/-! ## The body -/

/-- A staged array whole. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns
  simp only [Memref.view_whole, View.read_whole, View.set_whole]

theorem at_start (c : Dev nD) : (dat m c).Φ t0_0.castSucc = ready m c :=
  if_pos (c := t0_0.castSucc.val = 0) (t := ready m c) (e := counters c) rfl
theorem at_end (c : Dev nD) : (dat m c).Φ t0_0.succ = counters c :=
  if_neg (c := t0_0.succ.val = 0) (t := ready m c) (e := counters c) (by decide)
theorem owed_start (c : Dev nD) : (dat m c).owed t0_0.castSucc = O₀ c :=
  if_pos (c := t0_0.castSucc.val = 0) (t := O₀ c) (e := 0) rfl
theorem owed_end (c : Dev nD) : (dat m c).owed t0_0.succ = 0 :=
  if_neg (c := t0_0.succ.val = 0) (t := O₀ c) (e := 0) (by decide)

set_option maxRecDepth 4000 in
theorem body_obligation (c : Dev nD) : BodyObligation (dat m c) (defs₀ (F := F)) 𝒱₀ () Set.univ := fun t => by
  obtain rfl := fin_N0 t
  rw [bigSep_W0, bigSep_W0]
  simp only [owns_whole_eq]
  rw [at_start, at_end]
  show _ ⊢ wp frame (wpE (defs₀ (F := F)) 𝒱₀ (c : Thread nD τ) none) Set.univ
    (cc0_body inM (Memref.isWhole_whole _) outM outM_whole cc0_scratch0 cc0_scratch1 cc0_scratch2 cc0_scratch3 cc0_scratch4 cc0_scratch5
      cc0_scratch6 cc0_scratch7 cc0_scratch8 cc0_scratch9 : Kern F) _
  rw [body_plan, wp_deviceId]
  unfold ready Dat.owesAt Pipeline.owesWithin
  rw [owed_start, owed_end]
  iintro ⟨⟨%κ, #HR, Ht, Hc, He⟩, ⟨%W, -, HO⟩, ⟨%d0, %f0, %hf0, Hx⟩, ⟨%d1, %f1, %hf1, Ho⟩⟩
  rw [before_in] at hf0
  subst hf0
  iapply (run_plan (blocks m) κ c f1 _)
  isplitr; · iexact HR
  isplitl [Ht Hc He Ho]
  · isplitl [Ht]; · iexact Ht
    isplitl [Hc]; · iexact Hc
    isplitl [He]; · iexact He
    iexact Ho
  isplitl [Hx]; · iexact Hx
  isplitl [HO]; · iexists W; iexact HO
  iintro ⟨Hz, Ho, Hx, ⟨%W', HO⟩⟩
  isplitl [Hz]; · iexact Hz
  isplitl [HO]
  · iexists W'
    isplitr; · ipureintro; exact fun _ _ => Or.inl trivial
    iexact HO
  isplitl [Hx]
  · iexists (blocks m c)
    isplitr; · ipureintro; rfl
    iexact Hx
  iexists (gathered (blocks m))
  isplitr; · ipureintro; rfl
  iexact Ho

/-! ## The two host buffers -/

/-- A buffer of device `c`, whole. -/
abbrev pl (c : Dev nD) (b : Ref sig .tc) (f : b.ty.Contents (Elt F)) : sProp 𝕄 := ((c : Thread nD τ).loc b) ↦{fullShare} f

/-- What the reshape reads and writes. -/
def hostBufs : Finset (DevRef τ sig) := {Proc.devRef .tc main_v1, Proc.devRef .tc main_v2}

/-- The buffers of device `c` when the region ends: the gathered array, the others as launched. -/
abbrev atReshape (c : Dev nD) : Valuation τ sig (Elt F) :=
  Function.update (fun b => m ((c : Dev nD), b)) (Proc.devRef .tc main_v1) (gathered (blocks m))

theorem held_host (c : Dev nD) (W : Valuation τ sig (Elt F)) :
    (StableHlo.held (c : Thread nD τ) hostBufs W : sProp 𝕄) = iprop(pl c main_v1 (W main_v1) ∗ pl c main_v2 (W main_v2)) := by
  unfold StableHlo.held hostBufs
  rw [bigSep_eq_bigSepL_of_eq [Proc.devRef .tc main_v1, Proc.devRef .tc main_v2] (by decide) (by decide)]
  rfl
theorem atReshape_v1 (c : Dev nD) : atReshape m c main_v1 = gathered (blocks m) := Function.update_self ..
theorem atReshape_v2 (c : Dev nD) : atReshape m c main_v2 = m ((c : Thread nD τ).loc main_v2) := Function.update_of_ne (by decide) ..

/-- What stands beside them: the argument as launched, the barrier at zero, nothing owed. -/
def beside (c : Dev nD) : sProp 𝕄 :=
  iprop(pl c main_arg0 (blocks m c) ∗ semVal (barCell c) 0 ∗ ∃ W, owes (c : Thread nD τ) (0 : CellTallies nD τ sig Unit) W)
def between (c : Dev nD) : sProp 𝕄 := iprop(StableHlo.held (c : Thread nD τ) hostBufs (atReshape m c) ∗ beside m c)

/-! ## The region -/

/-- The semaphores of the region's own: two to a copy. -/
def osem (e : Fin 2 × Copy) : SemLoc sig := .dma (endSem e.1 e.2)

/-- What the launch deals device `c` beside its buffers. -/
def dealt (c : Dev nD) : sProp 𝕄 :=
  iprop(∃ κ, records (blocks m) κ ∗ tokens c ∗ credits c ∗ bigSep Finset.univ fun e : Fin 2 × Copy => openTok ER (dcell c e.1 e.2))

theorem own_sems (c : Dev nD) : (Pipeline.ownSems0 osem c : sProp 𝕄) = bigSep Finset.univ fun e : Fin 2 × Copy => semVal (dcell c e.1 e.2) 0 := rfl
/-- With its semaphores at zero, that puts them all under the protocol. -/
theorem open_all (c : Dev nD) : iprop(dealt m c ∗ Pipeline.ownSems0 osem c) ⊢ (|={Set.univ}=> ready m c : sProp 𝕄) := by
  have h (κ : GSem nD τ sig → ℕ) : iprop(records (blocks m) κ ∗ bigSep Finset.univ fun e : Fin 2 × Copy => iprop(openTok ER (dcell c e.1 e.2) ∗ semVal (dcell c e.1 e.2) 0))
      ⊢ (|={Set.univ}=> bigSep Finset.univ (opened c) : sProp 𝕄) := by
    refine (bigSep_with_persistent (R := records (blocks m) κ) (Ψ := fun e : Fin 2 × Copy => iprop(|={Set.univ}=> opened c e)) fun e _ => ?_).trans
      (bigSep_fupd _ _)
    exact (sep_mono_left (records_copy (blocks m) κ c e.1 e.2)).trans (Rounds.cell_open ER (gatherRd (blocks m)) (Set.mem_univ _))
  have hp : iprop((bigSep Finset.univ fun e : Fin 2 × Copy => openTok ER (dcell c e.1 e.2)) ∗ bigSep Finset.univ fun e : Fin 2 × Copy => semVal (dcell c e.1 e.2) 0)
      ⊢ (bigSep Finset.univ fun e : Fin 2 × Copy => iprop(openTok ER (dcell c e.1 e.2) ∗ semVal (dcell c e.1 e.2) 0) : sProp 𝕄) := bigSep_pair
  unfold dealt ready
  rw [own_sems]
  iintro ⟨⟨%κ, #HR, Ht, Hc, Ho⟩, Hz⟩
  imod (h κ) $$ [Ho Hz] with He
  · isplitr; · iexact HR
    iapply hp
    isplitl [Ho]; · iexact Ho
    iexact Hz
  imodintro
  iexists κ
  isplitr; · iexact HR
  isplitl [Ht]; · iexact Ht
  isplitl [Hc]; · iexact Hc
  iexact He

theorem arrays_eq (c : Dev nD) (A) : ((pdats (F := F) m 0 c).arrays A : sProp 𝕄) = iprop(pl c main_arg0 (A 0) ∗ pl c main_v1 (A 1)) := by
  rw [Pipeline.arrays_eq (Pipeline.pin (pcfgs (F := F)) adm) (pdats m) 0 c launch0.arr_whole ((pdats m 0 c).share_full fun _ => rfl) A, bigSep_W0]
theorem arg_at_end (c : Dev nD) : (pdats (F := F) m 0 c).arrAt 0 (Pipeline.pin (pcfgs (F := F)) adm 0).N = blocks m c :=
  (dat m c).arrAt_in 0 rfl _
theorem result_at_end (c : Dev nD) : (pdats (F := F) m 0 c).arrAt 1 (Pipeline.pin (pcfgs (F := F)) adm 0).N = gathered (blocks m) := result_at m c

theorem staging_level (c : Dev nD) : ∀ (w : Fin 2) (s : Fin (spec0 w).nbuf), lv ((c : Thread nD τ), .dma ((spec0 w).sem s)) () ≤ 0 :=
  (by decide : ∀ (w : Fin 2) (s : Fin (spec0 w).nbuf), lv (((0 : Dev nD) : Thread nD τ), .dma ((spec0 w).sem s)) () ≤ 0)
theorem above_owed (c : Dev nD) (t : Fin (cfg0.N + 1)) : Above 0 ((dat m c).owed t) := by
  show Above 0 (if t.val = 0 then O₀ c else 0)
  split
  · exact above_all c
  · exact Above.zero 0

local notation "ℝ𝕊" => Pipeline.RegionSeg (pcfgs (F := F)) adm (pdats m) () defs₀ 𝒱₀ L lv

def gather : ℝ𝕊 0 where
  win := launch0.win.to₀
  block_pos := launch0.block_pos
  stage_whole := launch0.stage_whole
  K := Fin 2 × Copy
  osem := osem
  ho := (by decide : Pipeline.OwnSemFacts spec0 osem)
  hbody c := (body_obligation m c).loose
  hwaits c := Pipeline.cellsWaits_intro _ (pdats m) () 0 c fun w s t =>
    mayWait 0 (staging_level c w s) (above_owed m c t)
  pre c := iprop(unscopedBufs c (fun b => m ((c : Thread nD τ).loc b)) ∗ dealt m c ∗ owes (c : Thread nD τ) (O₀ c) ∅)
  post := between m
  X c := ready m c
  Y c := semVal (barCell c) 0
  Z c := Pipeline.unscopedRest (Ix := Unit) (Name := ℕ) (U := UU) (Lvl := ℕ) spec0 c (fun b => m ((c : Thread nD τ).loc b))
  hentry c := by
    have hsplit := Pipeline.arrays_of_unscopedBufs (pcfgs (F := F)) adm (pdats m) launch0.win launch0.arr_whole c
      ((pdats m 0 c).share_full fun _ => rfl) (fun b => m ((c : Thread nD τ).loc b)) fun _ => rfl
    iintro ⟨⟨Hub, Hg, HO⟩, Hz, -⟩
    ihave H := hsplit $$ Hub
    icases H with ⟨Ha, Hr⟩
    imod (open_all m c) $$ [Hg Hz] with Hg
    · isplitl [Hg]; · iexact Hg
      iexact Hz
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists ∅; isplitr; · ipureintro; exact fun _ _ => Or.inl trivial
      iexact HO
    isplitl [Hg]; · iexact Hg
    iexact Hr
  hin c := by
    refine BIBase.Entails.trans ?_ (Entails.of_eq (at_start m c).symm)
    iintro ⟨Hg, -⟩
    iexact Hg
  hout c := by
    refine BIBase.Entails.trans (Entails.of_eq (at_end m c)) ?_
    rw [scopedRest0_eq, own_sems]
    unfold counters
    iintro ⟨Hb, Hz⟩
    isplitl [Hb]; · iexact Hb
    isplitl [Hz]; · iexact Hz
    iempintro
  hexit c := by
    unfold between beside; rw [arrays_eq, unscopedRest0_eq, held_host, arg_at_end, result_at_end, atReshape_v1, atReshape_v2]
    iintro ⟨⟨Hx, H1⟩, HO, Hb, H2⟩
    imodintro
    isplitl [H1 H2]
    · isplitl [H1]; · iexact H1
      iexact H2
    isplitl [Hx]; · iexact Hx
    isplitl [Hb]; · iexact Hb
    unfold Pipeline.Dat.owesAt Pipeline.owesWithin
    icases HO with ⟨%W, -, HO⟩; iexists W; iexact HO

/-! ## The reshape after it -/

theorem reshape_bufs : ∀ op ∈ (hostOps1 : List (HloOp τ sig (Elt F))), op.bufs ⊆ hostBufs := fun op h => by
  obtain rfl := List.mem_singleton.mp h
  show ({Proc.devRef .tc main_v1, Proc.devRef .tc main_v2} : Finset (DevRef τ sig)) ⊆ hostBufs; decide
theorem reshape_fresh : ∀ op ∈ (hostOps1 : List (HloOp τ sig (Elt F))), op.fresh = ∅ := fun op h => by
  obtain rfl := List.mem_singleton.mp h; rfl

def flatten : Pipeline.HostSeg (Name := ℕ) (U := UU) (pcfgs (F := F)) defs₀ 𝒱₀ L lv :=
  Pipeline.HostSeg.ofOps _ _ _ _ _ hostBufs (hostOps1 (F := F)) reshape_bufs reshape_fresh (atReshape m) (beside m)

def segs : List (Pipeline.Seg (pcfgs (F := F)) adm (pdats m) () defs₀ 𝒱₀ L lv) := [.region (gather m), .host (flatten m)]
theorem main_eq (c : Dev nD) : main (F := F) c = Pipeline.Seg.run (segs m) := main_segs adm (pdats m) () 𝒱₀ L lv (flatten m) (gather m) rfl c

/-- What every device returns: the gathered blocks, one under the other. -/
def result : (main_v2 : Ref sig .tc).ty.Contents (Elt F) :=
  shapeCast (main_v2 : Ref sig .tc).ty.shape (gathered (blocks m)) shapeCasts_S16x256x256_S4096x256
theorem after_reshape (c : Dev nD) : StableHlo.after (hostOps1 (F := F)) (atReshape m c) main_v2 = result m := by
  rw [StableHlo.after_cons, StableHlo.after_nil]
  refine (StableHlo.reshape_result main_v1 main_v2 _ _ _ _ _).trans ?_
  rw [atReshape_v1]
  rfl

/-- What device `c` holds at the end, nothing being owed. -/
def final (c : Dev nD) : sProp 𝕄 := iprop(pl c main_arg0 (blocks m c) ∗ pl c main_v2 (result m) ∗ semVal (barCell c) 0)

theorem flatten_final (c : Dev nD) : (flatten m).post c ⊢ iprop(final m c ∗ ∃ W, owes (c : Thread nD τ) (0 : CellTallies nD τ sig Unit) W) := by
  dsimp only [flatten, Pipeline.HostSeg.ofOps]
  unfold beside final
  rw [held_host, after_reshape]
  iintro ⟨⟨-, H2⟩, Hx, Hb, HO⟩
  isplitr [HO]
  · isplitl [Hx]; · iexact Hx
    isplitl [H2]; · iexact H2
    iexact Hb
  iexact HO

end Cert.Gather

end
-- ==== Proof.Credits.lean ====
/-
# What the devices owe each cell

Added up over the devices, every barrier is owed eight signals and every arrival semaphore one slot: each signal and
each copy is a permutation of the devices, so each cell is addressed once by each. The launch hands every device credit
for what its own cells are owed.
-/
module

public import proofs.«01_k».proof.Proof.Body
public import Idealize.ShloMosaic.Lib.Pipeline.Kit

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem barCell_inj : Function.Injective (barCell : Dev nD → GSem nD τ sig) := fun _ _ h => congrArg (fun g : GSem nD τ sig => g.1.1) h
theorem dcell_inj : Function.Injective fun p : Dev nD × Fin 2 × Copy => dcell p.1 p.2.1 p.2.2 := by
  rintro ⟨c, b, k⟩ ⟨c', b', k'⟩ h
  have hc : c = c' := congrArg (fun g : GSem nD τ sig => g.1.1) h
  have hs : endSem b k = endSem b' k' := SemLoc.dma.inj (congrArg Prod.snd h)
  obtain ⟨rfl, rfl⟩ := endSem_inj hs
  subst hc
  rfl
theorem dcell_ne_bar (c c' : Dev nD) (b : Fin 2) (k : Copy) : dcell c b k ≠ barCell c' := fun h => by
  have h' : (SemLoc.dma (endSem b k) : SemLoc sig) = .reg barS := congrArg Prod.snd h
  cases h'

/-- What is owed at a cell. -/
def owedAt (g : GSem nD τ sig) : CellTallies nD τ sig Unit →+ ℕ where
  toFun O := O g ()
  map_zero' := rfl
  map_add' _ _ := rfl

theorem owedAt_self (g : GSem nD τ sig) (n : ℕ) : owedAt g (tallyAt g () n) = n := (tallyAt_apply g () n g ()).trans (if_pos ⟨rfl, rfl⟩)
theorem owedAt_ne {g g' : GSem nD τ sig} (h : g ≠ g') (n : ℕ) : owedAt g (tallyAt g' () n) = 0 :=
  (tallyAt_apply g' () n g ()).trans (if_neg fun e => h e.1)

/-- One item from every device, each to a different device: `n` at each cell. -/
theorem owed_by_all (e : Dev nD ≃ Dev nD) (cell : Dev nD → GSem nD τ sig) (hi : Function.Injective cell) (n : ℕ) (c : Dev nD) :
    ∑ d : Dev nD, owedAt (cell c) (tallyAt (cell (e d)) () n) = n := by
  rw [Equiv.sum_comp e fun d => owedAt (cell c) (tallyAt (cell d) () n), Finset.sum_eq_single c, owedAt_self]
  · exact fun d _ hd => owedAt_ne (fun h => hd (hi h).symm) n
  · exact fun h => absurd (Finset.mem_univ c) h

theorem owed_start_sum (d : Dev nD) :
    O₀ d = (∑ σ : Sig, tallyAt (barCell (signalled σ d)) () 1) + ∑ k : Copy, tallyAt (dcell (dest k d) 1 k) () N := by
  have hs : owedSignals d signals = ∑ σ : Sig, tallyAt (barCell (signalled σ d)) () 1 := by
    unfold owedSignals
    rw [← List.sum_toFinset _ (by decide), show signals.toFinset = Finset.univ from by decide]
  have hc : O₁ d = ∑ k : Copy, tallyAt (dcell (dest k d) 1 k) () N := by
    unfold O₁ owedCopies
    rw [← List.sum_append, ← List.map_append, ← List.sum_append, ← List.map_append, ← List.sum_toFinset _ (by decide),
      show (firstCopies ++ (secondCopies ++ thirdCopies)).toFinset = Finset.univ from by decide]
  unfold O₀
  rw [hs, hc]

theorem owed_total (g : GSem nD τ sig) :
    ∑ d : Dev nD, owedAt g (O₀ d) = (∑ σ : Sig, ∑ d : Dev nD, owedAt g (tallyAt (barCell (signalled σ d)) () 1))
      + ∑ k : Copy, ∑ d : Dev nD, owedAt g (tallyAt (dcell (dest k d) 1 k) () N) := by
  rw [Finset.sum_comm, Finset.sum_comm (s := (Finset.univ : Finset Copy)), ← Finset.sum_add_distrib]
  refine Finset.sum_congr rfl fun d _ => ?_
  rw [owed_start_sum, map_add, map_sum, map_sum]

theorem owed_bar (c : Dev nD) : ∑ d : Dev nD, owedAt (barCell c) (O₀ d) = 8 := by
  have h (σ : Sig) : ∑ d : Dev nD, owedAt (barCell c) (tallyAt (barCell (signalled σ d)) () 1) = 1 :=
    owed_by_all (signalledEquiv σ) barCell barCell_inj 1 c
  rw [owed_total, Finset.sum_congr rfl fun σ _ => h σ,
    Finset.sum_eq_zero fun k _ => Finset.sum_eq_zero fun d _ => owedAt_ne (dcell_ne_bar (dest k d) c 1 k).symm N]
  rfl
theorem owed_copy (c : Dev nD) (k : Copy) : ∑ d : Dev nD, owedAt (dcell c 1 k) (O₀ d) = N := by
  rw [owed_total, Finset.sum_eq_zero fun σ _ => Finset.sum_eq_zero fun d _ => owedAt_ne (dcell_ne_bar c (signalled σ d) 1 k) 1, zero_add,
    Finset.sum_eq_single k]
  · exact owed_by_all (destEquiv k) (fun d => dcell d 1 k) (fun d d' h => congrArg (fun g : GSem nD τ sig => g.1.1) h) N c
  · intro k' _ hk
    refine Finset.sum_eq_zero fun d _ => owedAt_ne (fun h => hk ?_) N
    exact (congrArg (fun p : Dev nD × Fin 2 × Copy => p.2.2) (dcell_inj (a₁ := (c, 1, k)) (a₂ := (dest k' d, 1, k')) h)).symm
  · exact fun h => absurd (Finset.mem_univ k) h

theorem launch_at (g : GSem nD τ sig) {n : ℕ} (h : ∑ d : Dev nD, owedAt g (O₀ d) = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same]
  exact h

/-- The launch's credit for a device's own cells. -/
theorem launch_credits (c : Dev nD) : (Pipeline.launchCred O₀ c : sProp 𝕄) ⊢ credits c := by
  have hi : Set.InjOn (fun k : Copy => (SemLoc.dma (endSem 1 k) : SemLoc sig)) (Finset.univ : Finset Copy) := fun k _ k' _ h =>
    (endSem_inj (SemLoc.dma.inj h)).2
  have hs : (Finset.univ : Finset Copy).image (fun k => (SemLoc.dma (endSem 1 k) : SemLoc sig)) ⊆ Finset.univ.erase (.reg barS) := fun s h => by
    obtain ⟨k, -, rfl⟩ := Finset.mem_image.mp h
    exact Finset.mem_erase.mpr ⟨fun h => (by cases h), Finset.mem_univ _⟩
  unfold Pipeline.launchCred credits
  rw [bigSep_univ_at _ (SemLoc.reg barS), launch_at (barCell c) (owed_bar c)]
  refine sep_mono_right (BIBase.Entails.trans (bigSep_subset hs) ?_)
  rw [bigSep_image_of_injOn hi]
  exact bigSep_mono fun k _ => Entails.of_eq (congrArg cred (launch_at (dcell c 1 k) (owed_copy c k)))

end Cert.Gather

end
-- ==== Proof.Launch.lean ====
/-
# The launch and the run

The launch puts the barriers under the protocol with their counters, and the copy semaphores without: those counters
come with the region. It makes every count's token and deals each to the device that pays the count. The run is then the
region and the reshape, one after the other.
-/
module

public import proofs.«01_k».proof.Proof.Region
public import proofs.«01_k».proof.Proof.Credits

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)

variable {F : FTy → Type} [FloatOps F]

local notation "𝕄" => MT nD τ sig Unit (Elt F) ℕ UU ℕ

variable (m : (ℓ : Loc nD τ sig) → Buf (Elt F) ℓ) (ρ : Dev nD → PrngReg)

theorem cells_disjoint : Disjoint barCells copyCells := by
  rw [Finset.disjoint_left]
  intro g h₁ h₂
  obtain ⟨c, -, rfl⟩ := Finset.mem_image.mp h₁
  obtain ⟨p, -, h⟩ := Finset.mem_image.mp h₂
  exact dcell_ne_bar p.1 c p.2.1 p.2.2 h

/-! ## The tokens -/

/-- A token is a signal's, at the device signalled, or a copy's, at one of its ends. -/
abbrev Tok : Type := (Dev nD × Sig) ⊕ (Dev nD × Fin 2 × Copy)
def minted : Tok → GSem nD τ sig × ℕ × Sig
  | .inl (d, σ) => (barCell d, 0, σ)
  | .inr p => (dcell p.1 p.2.1 p.2.2, 0, 0)
theorem minted_inj : Function.Injective minted := by
  rintro (⟨d, σ⟩ | p) (⟨d', σ'⟩ | p') h
  · have h₁ : d = d' := barCell_inj (congrArg Prod.fst h)
    have h₂ : σ = σ' := congrArg (fun t : GSem nD τ sig × ℕ × Sig => t.2.2) h
    rw [h₁, h₂]
  · exact absurd (congrArg Prod.fst h).symm (dcell_ne_bar _ _ _ _)
  · exact absurd (congrArg Prod.fst h) (dcell_ne_bar _ _ _ _)
  · exact congrArg Sum.inr (dcell_inj (congrArg Prod.fst h))
def toks : Finset (GSem nD τ sig × ℕ × Sig) := Finset.univ.image minted

/-- The tokens of the counts device `c` pays. -/
def paid (c : Dev nD) : sProp 𝕄 :=
  iprop((bigSep Finset.univ fun σ : Sig => dutyTok ER (barCell (signalled σ c)) 0 σ) ∗ bigSep Finset.univ (copyTokens c))

theorem signal_tokens : (bigSep Finset.univ fun p : Dev nD × Sig => dutyTok ER (barCell p.1) 0 p.2 : sProp 𝕄)
    = bigSep Finset.univ fun c : Dev nD => bigSep Finset.univ fun σ : Sig => dutyTok ER (barCell (signalled σ c)) 0 σ := by
  rw [bigSep_univ_prod, BI.bigSep_univ_comm, BI.bigSep_univ_comm (fun (c : Dev nD) (σ : Sig) => (dutyTok ER (barCell (signalled σ c)) 0 σ : sProp 𝕄))]
  exact bigSep_congr fun σ _ => bigSep_univ_equiv (signalledEquiv σ) fun c => dutyTok ER (barCell c) 0 σ
theorem copy_tokens : (bigSep Finset.univ fun p : Dev nD × Fin 2 × Copy => dutyTok ER (dcell p.1 p.2.1 p.2.2) 0 0 : sProp 𝕄)
    = bigSep Finset.univ fun c : Dev nD => bigSep Finset.univ (copyTokens c) := by
  have arrive : (bigSep Finset.univ fun c : Dev nD => bigSep Finset.univ fun k : Copy => dutyTok ER (dcell c 1 k) 0 0 : sProp 𝕄)
      = bigSep Finset.univ fun c : Dev nD => bigSep Finset.univ fun k : Copy => dutyTok ER (dcell (dest k c) 1 k) 0 0 := by
    rw [BI.bigSep_univ_comm, BI.bigSep_univ_comm (fun (c : Dev nD) (k : Copy) => (dutyTok ER (dcell (dest k c) 1 k) 0 0 : sProp 𝕄))]
    exact bigSep_congr fun k _ => bigSep_univ_equiv (destEquiv k) fun c => dutyTok ER (dcell c 1 k) 0 0
  have split (c : Dev nD) : (bigSep Finset.univ fun e : Fin 2 × Copy => dutyTok ER (dcell c e.1 e.2) 0 0 : sProp 𝕄)
      = iprop((bigSep Finset.univ fun k : Copy => dutyTok ER (dcell c 0 k) 0 0) ∗ bigSep Finset.univ fun k : Copy => dutyTok ER (dcell c 1 k) 0 0) := by
    rw [bigSep_univ_prod, bigSep_fin_two]; rfl
  unfold copyTokens
  rw [bigSep_univ_prod, bigSep_congr fun c _ => split c, bigSep_sep', arrive, ← bigSep_sep']
  exact bigSep_congr fun c _ => (bigSep_sep' ..).symm

theorem toks_paid : (bigSep toks fun t => dutyTok ER t.1 t.2.1 t.2.2 : sProp 𝕄) = bigSep Finset.univ paid := by
  unfold toks paid
  rw [bigSep_image_of_injOn minted_inj.injOn, bigSep_univ_sum, bigSep_sep']
  exact congrArg₂ _ signal_tokens copy_tokens

/-! ## The launch -/

/-- All the protocol starts from. -/
def start : URounds (GSem nD τ sig) Sig := launchOf barCells copyCells toks
def u₀ : UU :=
  (initOf (Pipeline.cells (Pipeline.pin (pcfgs (F := F)) adm) cellOf_inj) (Pipeline.launchToks (Pipeline.pin (pcfgs (F := F)) adm) cellOf_inj), start)

/-- The devices launch with it in one place. -/
def G (c : Dev nD) : sProp 𝕄 := if c = 0 then BI.own (ER start) else iprop(emp)
theorem all_G : (bigSep Finset.univ G : sProp 𝕄) = BI.own (ER start) := by
  have h : ∀ c ∈ Finset.univ.erase (0 : Dev nD), (G c : sProp 𝕄) = BI.emp := fun c hc => if_neg (Finset.ne_of_mem_erase hc)
  rw [bigSep_univ_at _ (0 : Dev nD), bigSep_congr h, BI.bigSep_emp_const]
  exact BI.equiv_iff.mp sep_emp

theorem unscopedSems0_eq (c : Dev nD) : (unscopedSems0 c : sProp 𝕄) = semVal (barCell c) 0 := by
  unfold unscopedSems0
  rw [bigSep_eq_bigSepL_of_eq [SemLoc.reg barS] (by decide) (by decide)]
  rfl

/-- What a device has of its own at the launch. -/
def own (c : Dev nD) : sProp 𝕄 :=
  iprop(unscopedBufs c (fun b => m ((c : Thread nD τ).loc b)) ∗ owes (c : Thread nD τ) (O₀ c) ∅ ∗ credits c)
/-- What the protocol's making adds. -/
def given (c : Dev nD) : sProp 𝕄 :=
  iprop(atPos ER (barCell c) 0 ∅ 0 ∗ (bigSep Finset.univ fun e : Fin 2 × Copy => openTok ER (dcell c e.1 e.2)) ∗ paid c)

theorem gather_pre (κ : GSem nD τ sig → ℕ) (c : Dev nD) : iprop(records (blocks m) κ ∗ (own m c ∗ given c)) ⊢ ((gather m).pre c : sProp 𝕄) := by
  dsimp only [gather]
  unfold own given dealt tokens paid
  iintro ⟨#HR, ⟨Hb, HO, Hc⟩, Hat, Ho, Hs, Hk⟩
  isplitl [Hb]; · iexact Hb
  isplitr [HO]
  · iexists κ
    isplitr; · iexact HR
    isplitl [Hat Hs Hk]
    · isplitl [Hat]; · iexact Hat
      isplitl [Hs]; · iexact Hs
      iexact Hk
    isplitl [Hc]; · iexact Hc
    iexact Ho
  iexact HO

/-- What a device launches with. -/
def launched (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ G c)
theorem launched_parts (c : Dev nD) : launched m ρ c ⊢ (iprop(own m c ∗ (semVal (barCell c) 0 ∗ G c)) : sProp 𝕄) := by
  unfold launched own
  rw [unscopedSems0_eq]
  iintro ⟨Hb, Hs, HO, Hc, -, HG⟩
  ihave Hc' := (launch_credits c) $$ Hc
  isplitl [Hb HO Hc']
  · isplitl [Hb]; · iexact Hb
    isplitl [HO]; · iexact HO
    iexact Hc'
  isplitl [Hs]; · iexact Hs
  iexact HG

theorem over_barCells (Φ : GSem nD τ sig → sProp 𝕄) : bigSep barCells Φ = bigSep Finset.univ fun c : Dev nD => Φ (barCell c) :=
  bigSep_image_of_injOn barCell_inj.injOn Φ
theorem over_copyCells (Φ : GSem nD τ sig → sProp 𝕄) :
    bigSep copyCells Φ = bigSep Finset.univ fun c : Dev nD => bigSep Finset.univ fun e : Fin 2 × Copy => Φ (dcell c e.1 e.2) := by
  unfold copyCells
  rw [bigSep_image_of_injOn dcell_inj.injOn, bigSep_univ_prod]

/-- The protocol is made from the barriers' counters and what the devices launched with. -/
theorem make : iprop((bigSep Finset.univ fun c : Dev nD => semVal (barCell c) 0) ∗ bigSep Finset.univ G ∗ levAts L lv)
    ⊢ (|={Set.univ}=> ∃ κ, records (blocks m) κ ∗ bigSep Finset.univ given : sProp 𝕄) := by
  have hgiven : iprop((bigSep Finset.univ fun c : Dev nD => atPos ER (barCell c) 0 ∅ 0)
        ∗ (bigSep Finset.univ fun c : Dev nD => bigSep Finset.univ fun e : Fin 2 × Copy => openTok ER (dcell c e.1 e.2)) ∗ bigSep Finset.univ paid)
      ⊢ (bigSep Finset.univ given : sProp 𝕄) := (sep_mono_right bigSep_pair).trans bigSep_pair
  rw [← over_barCells fun g => atPos ER g 0 ∅ 0, ← over_copyCells fun g => openTok ER g, ← toks_paid] at hgiven
  rw [← over_barCells fun g => semVal g 0, all_G]
  unfold start records
  iintro ⟨Hv, HG, #HL⟩
  imod (Rounds.fund_launch ER (gatherRd (blocks m)) cells_disjoint (fun g _ h => h) toks) $$ [Hv HG] with ⟨%κ, -, #Hinv, #Hr, Hat, Hopen, Htok⟩
  · isplitl [Hv]; · iexact Hv
    iexact HG
  imodintro
  iexists κ
  isplitr
  · isplitr; · iexact Hinv
    isplitr; · iexact Hr
    iexact HL
  iapply hgiven
  isplitl [Hat]; · iexact Hat
  isplitl [Hopen]; · iexact Hopen
  iexact Htok

theorem init : iprop((bigSep Finset.univ (launched m ρ)) ∗ levAts L lv) ⊢ (|={Set.univ}=> bigSep Finset.univ (gather m).pre : sProp 𝕄) := by
  have hparts : (bigSep Finset.univ (launched m ρ) : sProp 𝕄)
      ⊢ iprop(bigSep Finset.univ (own m) ∗ (bigSep Finset.univ fun c : Dev nD => semVal (barCell c) 0) ∗ bigSep Finset.univ G) :=
    (bigSep_mono fun c _ => launched_parts m ρ c).trans (bigSep_unpair.trans (sep_mono_right bigSep_unpair))
  have hpre (κ : GSem nD τ sig → ℕ) : iprop(records (blocks m) κ ∗ bigSep Finset.univ fun c : Dev nD => iprop(own m c ∗ given c))
      ⊢ (bigSep Finset.univ (gather m).pre : sProp 𝕄) := bigSep_with_persistent fun c _ => gather_pre m κ c
  have hown : iprop(bigSep Finset.univ (own m) ∗ bigSep Finset.univ given)
      ⊢ (bigSep Finset.univ fun c : Dev nD => iprop(own m c ∗ given c) : sProp 𝕄) := bigSep_pair
  iintro ⟨H, HL⟩
  ihave H1 := hparts $$ H
  icases H1 with ⟨HB, Hv, HG⟩
  imod (make m) $$ [Hv HG HL] with ⟨%κ, HR, Hg⟩
  · isplitl [Hv]; · iexact Hv
    isplitl [HG]; · iexact HG
    iexact HL
  imodintro
  iapply (hpre κ)
  isplitl [HR]; · iexact HR
  iapply hown
  isplitl [HB]; · iexact HB
  iexact Hg

/-! ## The run -/

theorem unscoped_eq : ∀ sm : SemLoc sig, sm.isScoped .tc = false → sm = .reg barS := by decide

set_option backward.isDefEq.respectTransparency.types false in
/-- From any memory and zero counters, every device ends with the argument it had and the result, every counter zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_v2) = result m) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [all_G]; iexact HX)
    (T₀ := (gather m).pre) (Tₙ := final m)
    (hch := ⟨fun _ => .rfl, fun _ => .rfl, fun c => flatten_final m c⟩)
    (hinit := init m ρ)
    (QY := fun c s => (s.mem ((c : Thread nD τ).loc main_arg0) = blocks m c ∧ s.mem ((c : Thread nD τ).loc main_v2) = result m) ∧ s.sem (barCell c) = 0)
    (hfin := fun c s' => by
      unfold final
      iintro ⟨⟨Hx, H2, Hb⟩, HSI⟩
      icombine HSI Hx gives %hx
      icombine HSI H2 gives %h2
      icombine HSI Hb gives %hb
      imodintro
      isplitr
      · ipureintro
        exact ⟨⟨Buf.eq_of_forall_mem_univ hx, Buf.eq_of_forall_mem_univ h2⟩, by simpa using hb⟩
      iexact HSI)
    (hQ := fun s h hs => ⟨fun c => (h c).1, sem_eq_zero hs fun c sm hsm => by
      obtain rfl := unscoped_eq sm hsm
      exact (h c).2⟩)

end Cert.Gather

end
-- ==== Proof.Value.lean ====
/-
# The result is the whole array

The argument is cut by rows into sixteen blocks of 256, one to a device. The gathered array has block `s` as its slot
`s`, and row `r` of the result is row `r % 256` of slot `r / 256`: row `r` of the whole array. The reference returns its
argument, which is that whole array.
-/
module

public import proofs.«01_k».proof.Proof.Launch
public import proofs.«01_k».proof.Proof.Gen.ReferenceIdeal
public import Idealize.ShloMosaic.Lib.Pipeline.Value
public import Idealize.ShloMosaic.Lib.Layout
public import Idealize.ShloMosaic.Lib.StableHlo.Run
public import Idealize.ShloMosaic.Lib.Quiescent

@[expose] public section

noncomputable section

namespace Cert.Gather

open Cert.KernelIdeal Cert.KernelIdeal.Gen
open Idealize.ShloMosaic
open Idealize.ShloMosaic.TcCoe
open Idealize.SL.Sem

variable {F : FTy → Type} [FloatOps F]

theorem rows_tile : Layout.Tiles S256x256 S4096x256 0 16 := by decide

/-- Where row `r` of the result is among the slots. -/
def inSlots (j : S4096x256.Idx) : S16x256x256.Idx := fun
  | ⟨0, _⟩ => ⟨(j 0).val / 256, Nat.div_lt_of_lt_mul (j 0).isLt⟩
  | ⟨1, _⟩ => ⟨(j 0).val % 256, Nat.mod_lt _ (by decide)⟩
  | ⟨2, _⟩ => ⟨(j 1).val, (j 1).isLt⟩

theorem inSlots_rowMajor (j : S4096x256.Idx) : (S16x256x256.rowMajor (inSlots j)).val = (S4096x256.rowMajor j).val := by
  rw [Shape.rowMajor_val_three, Shape.rowMajor_val_two]
  show ((j 0).val / 256 * 256 + (j 0).val % 256) * 256 + (j 1).val = (j 0).val * 256 + (j 1).val
  rw [Nat.div_add_mod']

/-- If every device's block is its block of the array `Y`, the result is `Y`. -/
theorem result_whole (m : (ℓ : Loc nD τ sig) → Buf (Elt F) ℓ) (Y : S4096x256.Idx → Elt F .bf16)
    (h : ∀ c : Dev nD, m ((c : Thread nD τ).loc main_arg0) = Layout.block S256x256 S4096x256 0 16 c Y rows_tile) : result m = Y := by
  funext j
  have hr : (j 0).val < 4096 := (j 0).isLt
  refine (shapeCast_apply _ _ j (inSlots j) (inSlots_rowMajor j)).trans ?_
  refine (congrFun (h (device ((j 0).val / 256))) fun a => inSlots j a.succ).trans ?_
  refine congrArg Y (funext fun a => ?_)
  apply Fin.ext
  match a with
  | ⟨0, _⟩ =>
    show ((j 0).val / 256) % 16 * 256 + (j 0).val % 256 = (j 0).val
    omega
  | ⟨1, _⟩ => rfl

/-! ## The reference -/

/-- The reference runs no operation: its argument is its result, and stays. -/
theorem run_reference (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      fun r => ∀ c : Dev Cert.ReferenceIdeal.nD, r.2.mem ((c : Thread Cert.ReferenceIdeal.nD Cert.ReferenceIdeal.τ).loc Cert.ReferenceIdeal.main_arg0)
        = m' ((c : Thread Cert.ReferenceIdeal.nD Cert.ReferenceIdeal.τ).loc Cert.ReferenceIdeal.main_arg0) :=
  (θ_run Cert.ReferenceIdeal.defs _ _).mono (fun _ h c => h c Cert.ReferenceIdeal.main_arg0)
    (StableHlo.run_seq (by decide) (by decide) Cert.ReferenceIdeal.defs Cert.ReferenceIdeal.main (fun _ => []) (fun _ => rfl) (fun _ => trivial) m' ρ')

end Cert.Gather

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.SL.Sem Cert.Kernel

/-! The run is proved over any values of the float types; the first two claims are it at two of them. -/

/-- The run leaves the argument as it was and every counter at zero. -/
theorem quiet {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c).1, h.2⟩) (Cert.Gather.run_main m ρ)

/-- The two texts have one table of bodies: it has a single label. -/
theorem same_bodies : Cert.Kernel.defs₀ (F := Bits) = Cert.KernelIdeal.defs₀ (F := Bits) :=
  congrArg Defs.onTc (funext fun l => funext fun a => by
    match l, a with
    | 0, (t, s) => rfl
    | ⟨_ + 1, h⟩, _ => exact absurd h (Nat.not_lt.2 (Nat.le_add_left _ _)))

theorem same_defs : Cert.Kernel.defs (F := Bits) = Cert.KernelIdeal.defs (F := Bits) :=
  congrArg (Pipeline.defs Cert.Kernel.pcfgs) same_bodies

theorem frame_kernel : Cert.quiescent_Kernel := fun m ρ _ => by
  rw [same_defs]
  exact quiet (F := Bits) m ρ
theorem frame_ideal : Cert.quiescent_KernelIdeal := fun m ρ _ => quiet (F := Ideal) m ρ
theorem frame_reference : Cert.quiescent_ReferenceIdeal := fun m ρ _ =>
  (θ_run Cert.ReferenceIdeal.defs _ _).mono (fun r h => ⟨h, sem_eq_zero_of_no_sems (by decide) r.2⟩) (Cert.Gather.run_reference m ρ)

/-- Every device ends with the reference's whole array. -/
theorem gathers : Cert.algebraic_KernelIdeal_ReferenceIdeal := fun m ρ m' ρ' _ hm =>
  ⟨_, (θ_run Cert.KernelIdeal.defs _ _).mono (fun _ h c => ⟨(h.1 c).2.trans (Cert.Gather.result_whole m _ hm), (h.1 c).1⟩)
      (Cert.Gather.run_main (F := Ideal) m ρ),
    (θ_run Cert.ReferenceIdeal.defs _ _).mono (fun _ h => ⟨h 0, h 0⟩) (Cert.Gather.run_reference m' ρ')⟩

theorem claim : Cert.Claim := ⟨Cert.Kernel.Gen.facts, Cert.KernelIdeal.Gen.facts, Cert.ReferenceIdeal.Gen.facts,
  frame_kernel, frame_ideal, frame_reference, trivial, gathers⟩

end Cert.Proof

end
